-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_have_finite_tops [hPre_rows_have_finite_tops : Cert.Pre_rows_have_finite_tops.Facts] (m : (ℓ : Loc Cert.KernelIdeal.nD Cert.KernelIdeal.τ Cert.KernelIdeal.sig) → Buf (Elt Ideal) ℓ) : Prop :=
  ∀ c : Dev Cert.KernelIdeal.nD,
    (Cert.Pre_rows_have_finite_tops.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_have_finite_tops [hPre_rows_have_finite_tops : Cert.Pre_rows_have_finite_tops.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_have_finite_tops.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_have_finite_tops [hKernelIdeal : Cert.KernelIdeal.Facts] [hPre_rows_have_finite_tops : Cert.Pre_rows_have_finite_tops.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_have_finite_tops m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_have_finite_tops [hReferenceIdeal : Cert.ReferenceIdeal.Facts] [hPre_rows_have_finite_tops : Cert.Pre_rows_have_finite_tops.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_have_finite_tops m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rows_have_finite_tops [hKernelIdeal : Cert.KernelIdeal.Facts] [hReferenceIdeal : Cert.ReferenceIdeal.Facts] [hPre_rows_have_finite_tops : Cert.Pre_rows_have_finite_tops.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_have_finite_tops m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_have_finite_tops : Cert.Pre_rows_have_finite_tops.Facts),
    quiescent_Kernel (hKernel := hKernel)
    ∧ quiescent_KernelIdeal (hKernelIdeal := hKernelIdeal)
    ∧ quiescent_KernelIdeal_pre_rows_have_finite_tops (hKernelIdeal := hKernelIdeal) (hPre_rows_have_finite_tops := hPre_rows_have_finite_tops)
    ∧ quiescent_ReferenceIdeal (hReferenceIdeal := hReferenceIdeal)
    ∧ quiescent_ReferenceIdeal_pre_rows_have_finite_tops (hReferenceIdeal := hReferenceIdeal) (hPre_rows_have_finite_tops := hPre_rows_have_finite_tops)
    ∧ preserves_Kernel_KernelIdeal
    ∧ algebraic_KernelIdeal_ReferenceIdeal_pre_rows_have_finite_tops (hKernelIdeal := hKernelIdeal) (hReferenceIdeal := hReferenceIdeal) (hPre_rows_have_finite_tops := hPre_rows_have_finite_tops)
-- ==== Pre_rows_have_finite_tops.lean ====
abbrev S128x100000 : Shape := ⟨2, ![128, 100000]⟩
abbrev S_ : Shape := ⟨0, ![]⟩
abbrev S128 : Shape := ⟨1, ![128]⟩
abbrev S128x1 : Shape := ⟨2, ![128, 1]⟩

class Facts : Prop where
  bcast_S_S128x100000 : S_.BroadcastsInDim S128x100000 (![] : Fin 0 → Fin S128x100000.rank)
  reducesTo_S128x100000_S128_d1 : S128x100000.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x100000_0_1 : S128x1.BroadcastsInDim S128x100000 (![0, 1] : Fin 2 → Fin S128x100000.rank)

variable [Facts]

def fn {F : FTy → Type} [FloatOps F] (main_arg0 : FVec F S128x100000 .f32) (main_arg1 : FVec F S128x100000 .f32) : IVec S128x100000 1 :=
  let main_cst : FVec F S_ .f32 := constant S_ .f32 0x2D2FEBFF#32
  let main_v0 : FVec F S128x100000 .f32 := broadcastInDim S128x100000 ![] bcast_S_S128x100000 main_cst
  let main_v1 : FVec F S128x100000 .f32 := addf main_arg1 main_v0
  let main_v2 : FVec F S128x100000 .f32 := Host.log main_v1
  let main_v3 : FVec F S128x100000 .f32 := Host.negf main_v2
  let main_v4 : FVec F S128x100000 .f32 := Host.log main_v3
  let main_v5 : FVec F S128x100000 .f32 := Host.negf main_v4
  let main_v6 : FVec F S128x100000 .f32 := addf main_arg0 main_v5
  let main_cst_0 : FVec F S_ .f32 := constant S_ .f32 0xFF800000#32
  let main_v7 : FVec F S128 .f32 := (fun x v => Host.reduce FloatOps.maximumf x v reducesTo_S128x100000_S128_d1 h_S_) main_v6 main_cst_0
  let main_v8 : FVec F S128x1 .f32 := broadcastInDim S128x1 ![0] bcast_S128_S128x1_0 main_v7
  let main_cst_1 : FVec F S_ .f32 := constant S_ .f32 0x7F800000#32
  let main_v9 : FVec F S128x100000 .f32 := broadcastInDim S128x100000 ![] bcast_S_S128x100000 main_cst_1
  let main_v10 : IVec S128x100000 1 := cmpf .olt main_arg0 main_v9
  let main_cst_2 : FVec F S_ .f32 := constant S_ .f32 0x7F800000#32
  let main_v11 : FVec F S128x1 .f32 := broadcastInDim S128x1 ![] bcast_S_S128x1 main_cst_2
  let main_v12 : IVec S128x1 1 := cmpf .olt main_v8 main_v11
  let main_v13 : IVec S128x100000 1 := broadcastInDim S128x100000 ![0, 1] bcast_S128x1_S128x100000_0_1 main_v12
  let main_v14 : IVec S128x100000 1 := andi main_v10 main_v13
  let main_cst_3 : FVec F S_ .f32 := constant S_ .f32 0xFF800000#32
  let main_v15 : FVec F S128x1 .f32 := broadcastInDim S128x1 ![] bcast_S_S128x1 main_cst_3
  let main_v16 : IVec S128x1 1 := cmpf .ogt main_v8 main_v15
  let main_v17 : IVec S128x100000 1 := broadcastInDim S128x100000 ![0, 1] bcast_S128x1_S128x100000_0_1 main_v16
  let main_v18 : IVec S128x100000 1 := andi main_v14 main_v17
  main_v18
-- ==== Kernel.lean ====
abbrev S128x100000 : Shape := ⟨2, ![128, 100000]⟩
abbrev S100000x128 : Shape := ⟨2, ![100000, 128]⟩
abbrev S10x1000x128 : Shape := ⟨3, ![10, 1000, 128]⟩
abbrev S8x1000x128 : Shape := ⟨3, ![8, 1000, 128]⟩
abbrev S800x128 : Shape := ⟨2, ![800, 128]⟩
abbrev S100 : Shape := ⟨1, ![100]⟩
abbrev S10 : Shape := ⟨1, ![10]⟩
abbrev S8 : Shape := ⟨1, ![8]⟩
abbrev S1 : Shape := ⟨1, ![1]⟩
abbrev S_ : Shape := ⟨0, ![]⟩
abbrev S1000x128 : Shape := ⟨2, ![1000, 128]⟩
abbrev S1x1000x128 : Shape := ⟨3, ![1, 1000, 128]⟩
abbrev S1x128 : Shape := ⟨2, ![1, 128]⟩
abbrev S128 : Shape := ⟨1, ![128]⟩
abbrev S8x128 : Shape := ⟨2, ![8, 128]⟩

abbrev nBuf : Space → Nat
  | .hbm => 6
  | .vmem => 4
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S100000x128, .f32⟩
  | .hbm, ⟨3, _⟩ => ⟨S100000x128, .f32⟩
  | .hbm, ⟨4, _⟩ => ⟨S100000x128, .f32⟩
  | .hbm, ⟨5, _⟩ => ⟨S128x100000, .f32⟩
  | .local _ .vmem, ⟨0, _⟩ => ⟨S100000x128, .f32⟩
  | .local _ .vmem, ⟨1, _⟩ => ⟨S10x1000x128, .f32⟩
  | .local _ .vmem, ⟨2, _⟩ => ⟨S8x1000x128, .f32⟩
  | .local _ .vmem, ⟨3, _⟩ => ⟨S800x128, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 118 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | _ => false

abbrev sig : RefSig :=
  ofTc nBuf bufTy 0 118 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩

abbrev nD : Nat := 1
abbrev τ : Topo := Topo.v7x

variable {F : FTy → Type} [FloatOps F]

abbrev grid0 : Pipeline.Grid := .none

@[reducible] def k0_t1_loop : Scf.Loop 32 :=
  let c0_i32_98 : BitVec 32 := 0#32
  let c100_i32 : BitVec 32 := 100#32
  let v100 : BitVec 32 := Scalar.addi c0_i32_98 c100_i32
  let c1_i32_99 : BitVec 32 := 1#32
  ⟨c0_i32_98, v100, c1_i32_99⟩
def k0_off1 (k0_t1 : Fin k0_t1_loop.trips) : Fin 1 → Nat :=
  let c0_i32_98 : BitVec 32 := 0#32
  let c1_i32_99 : BitVec 32 := 1#32
  let arg10 : BitVec 32 := Scf.iv c0_i32_98 c1_i32_99 k0_t1
  ![arg10.toNat]
def k0_off2 (k0_t1 : Fin k0_t1_loop.trips) : Fin 2 → Nat :=
  let c0_i32_98 : BitVec 32 := 0#32
  let c1_i32_99 : BitVec 32 := 1#32
  let arg10 : BitVec 32 := Scf.iv c0_i32_98 c1_i32_99 k0_t1
  let c1000_i32_148 : BitVec 32 := 1000#32
  let v147 : BitVec 32 := Scalar.muli arg10 c1000_i32_148
  let c0_i32_149 : BitVec 32 := 0#32
  ![v147.toNat, 0]
def k0_off3 (k0_t1 : Fin k0_t1_loop.trips) : Fin 1 → Nat :=
  let c0_i32_98 : BitVec 32 := 0#32
  let c1_i32_99 : BitVec 32 := 1#32
  let arg10 : BitVec 32 := Scf.iv c0_i32_98 c1_i32_99 k0_t1
  let c10_i32_146 : BitVec 32 := 10#32
  let v145 : BitVec 32 := Scalar.remsi arg10 c10_i32_146
  ![v145.toNat]
def k0_off4 (k0_t1 : Fin k0_t1_loop.trips) : Fin 3 → Nat :=
  let c0_i32_98 : BitVec 32 := 0#32
  let c1_i32_99 : BitVec 32 := 1#32
  let arg10 : BitVec 32 := Scf.iv c0_i32_98 c1_i32_99 k0_t1
  let c10_i32_146 : BitVec 32 := 10#32
  let v145 : BitVec 32 := Scalar.remsi arg10 c10_i32_146
  let c0_i32_152 : BitVec 32 := 0#32
  let c0_i32_153 : BitVec 32 := 0#32
  ![v145.toNat, 0, 0]
def k0_off5 (k0_t1 : Fin k0_t1_loop.trips) : Fin 2 → Nat :=
  let c0_i32_98 : BitVec 32 := 0#32
  let c1_i32_99 : BitVec 32 := 1#32
  let arg10 : BitVec 32 := Scf.iv c0_i32_98 c1_i32_99 k0_t1
  let c1000_i32_155 : BitVec 32 := 1000#32
  let v158 : BitVec 32 := Scalar.muli arg10 c1000_i32_155
  let v159 : Index := Scalar.indexCast v158
  let c0 : Index := 0#32
  ![v159.toNat, 0]
def k0_off6 (k0_t1 : Fin k0_t1_loop.trips) : Fin 3 → Nat :=
  let c0_i32_98 : BitVec 32 := 0#32
  let c1_i32_99 : BitVec 32 := 1#32
  let arg10 : BitVec 32 := Scf.iv c0_i32_98 c1_i32_99 k0_t1
  let c10_i32_146 : BitVec 32 := 10#32
  let v145 : BitVec 32 := Scalar.remsi arg10 c10_i32_146
  let v161 : Index := Scalar.indexCast v145
  let c0_156 : Index := 0#32
  let c0_157 : Index := 0#32
  ![v161.toNat, 0, 0]
def k0_off7 (k0_t1 : Fin k0_t1_loop.trips) : Fin 2 → Nat :=
  let c0_i32_98 : BitVec 32 := 0#32
  let c1_i32_99 : BitVec 32 := 1#32
  let arg10 : BitVec 32 := Scf.iv c0_i32_98 c1_i32_99 k0_t1
  let c8_i32_163 : BitVec 32 := 8#32
  let v184 : BitVec 32 := Scalar.muli arg10 c8_i32_163
  let v185 : Index := Scalar.indexCast v184
  let c0_164 : Index := 0#32
  ![v185.toNat, 0]
def k0_cond1 (k0_t1 : Fin k0_t1_loop.trips) : BitVec 1 :=
  let c0_i32_98 : BitVec 32 := 0#32
  let c1_i32_99 : BitVec 32 := 1#32
  let arg10 : BitVec 32 := Scf.iv c0_i32_98 c1_i32_99 k0_t1
  let c12_i32 : BitVec 32 := 12#32
  let v195 : BitVec 32 := Scalar.addi arg10 c12_i32
  let c100_i32_166 : BitVec 32 := 100#32
  let v196 : BitVec 1 := Scalar.cmpi .slt v195 c100_i32_166
  let v197 : BitVec 32 := Scalar.extui v196
  let c0_i32_167 : BitVec 32 := 0#32
  let v198 : BitVec 1 := Scalar.cmpi .ne v197 c0_i32_167
  v198

def k0_off8 (k0_t1 : Fin k0_t1_loop.trips) : Fin 1 → Nat :=
  let c0_i32_98 : BitVec 32 := 0#32
  let c1_i32_99 : BitVec 32 := 1#32
  let arg10 : BitVec 32 := Scf.iv c0_i32_98 c1_i32_99 k0_t1
  let c12_i32_171 : BitVec 32 := 12#32
  let v203 : BitVec 32 := Scalar.addi arg10 c12_i32_171
  ![v203.toNat]
def k0_off9 (k0_t1 : Fin k0_t1_loop.trips) : Fin 2 → Nat :=
  let c0_i32_98 : BitVec 32 := 0#32
  let c1_i32_99 : BitVec 32 := 1#32
  let arg10 : BitVec 32 := Scf.iv c0_i32_98 c1_i32_99 k0_t1
  let c12_i32_171 : BitVec 32 := 12#32
  let v203 : BitVec 32 := Scalar.addi arg10 c12_i32_171
  let c1000_i32_173 : BitVec 32 := 1000#32
  let v205 : BitVec 32 := Scalar.muli v203 c1000_i32_173
  let c0_i32_174 : BitVec 32 := 0#32
  ![v205.toNat, 0]
def k0_cond2 (k0_t1 : Fin k0_t1_loop.trips) : BitVec 1 :=
  let c0_i32_98 : BitVec 32 := 0#32
  let c1_i32_99 : BitVec 32 := 1#32
  let arg10 : BitVec 32 := Scf.iv c0_i32_98 c1_i32_99 k0_t1
  let c10_i32_168 : BitVec 32 := 10#32
  let v199 : BitVec 32 := Scalar.addi arg10 c10_i32_168
  let c100_i32_169 : BitVec 32 := 100#32
  let v200 : BitVec 1 := Scalar.cmpi .slt v199 c100_i32_169
  let v201 : BitVec 32 := Scalar.extui v200
  let c0_i32_170 : BitVec 32 := 0#32
  let v202 : BitVec 1 := Scalar.cmpi .ne v201 c0_i32_170
  v202

def k0_off10 (k0_t1 : Fin k0_t1_loop.trips) : Fin 1 → Nat :=
  let c0_i32_98 : BitVec 32 := 0#32
  let c1_i32_99 : BitVec 32 := 1#32
  let arg10 : BitVec 32 := Scf.iv c0_i32_98 c1_i32_99 k0_t1
  let c10_i32_146 : BitVec 32 := 10#32
  let v145 : BitVec 32 := Scalar.remsi arg10 c10_i32_146
  ![v145.toNat]
def k0_off11 (k0_t1 : Fin k0_t1_loop.trips) : Fin 3 → Nat :=
  let c0_i32_98 : BitVec 32 := 0#32
  let c1_i32_99 : BitVec 32 := 1#32
  let arg10 : BitVec 32 := Scf.iv c0_i32_98 c1_i32_99 k0_t1
  let c10_i32_146 : BitVec 32 := 10#32
  let v145 : BitVec 32 := Scalar.remsi arg10 c10_i32_146
  let c0_i32_173 : BitVec 32 := 0#32
  let c0_i32_174 : BitVec 32 := 0#32
  ![v145.toNat, 0, 0]
def k0_off12 (k0_t1 : Fin k0_t1_loop.trips) : Fin 2 → Nat :=
  let c0_i32_98 : BitVec 32 := 0#32
  let c1_i32_99 : BitVec 32 := 1#32
  let arg10 : BitVec 32 := Scf.iv c0_i32_98 c1_i32_99 k0_t1
  let c10_i32_171 : BitVec 32 := 10#32
  let v203 : BitVec 32 := Scalar.addi arg10 c10_i32_171
  let c1000_i32_172 : BitVec 32 := 1000#32
  let v204 : BitVec 32 := Scalar.muli v203 c1000_i32_172
  let c0_i32_175 : BitVec 32 := 0#32
  ![v204.toNat, 0]
@[reducible] def k0_t2_loop : Scf.Loop 32 :=
  let c0_i32_102 : BitVec 32 := 0#32
  let c100_i32_103 : BitVec 32 := 100#32
  let v104 : BitVec 32 := Scalar.addi c0_i32_102 c100_i32_103
  let c1_i32_104 : BitVec 32 := 1#32
  ⟨c0_i32_102, v104, c1_i32_104⟩
def k0_cond3 (k0_t2 : Fin k0_t2_loop.trips) : BitVec 1 :=
  let c0_i32_102 : BitVec 32 := 0#32
  let c1_i32_104 : BitVec 32 := 1#32
  let arg10 : BitVec 32 := Scf.iv c0_i32_102 c1_i32_104 k0_t2
  let c8_i32_147 : BitVec 32 := 8#32
  let v146 : BitVec 1 := Scalar.cmpi .sge arg10 c8_i32_147
  let v147 : BitVec 32 := Scalar.extui v146
  let c0_i32_148 : BitVec 32 := 0#32
  let v148 : BitVec 1 := Scalar.cmpi .ne v147 c0_i32_148
  v148

def k0_off13 (k0_t2 : Fin k0_t2_loop.trips) : Fin 1 → Nat :=
  let c0_i32_102 : BitVec 32 := 0#32
  let c1_i32_104 : BitVec 32 := 1#32
  let arg10 : BitVec 32 := Scf.iv c0_i32_102 c1_i32_104 k0_t2
  let c8_i32_146 : BitVec 32 := 8#32
  let v145 : BitVec 32 := Scalar.remsi arg10 c8_i32_146
  ![v145.toNat]
def k0_off14 (k0_t2 : Fin k0_t2_loop.trips) : Fin 2 → Nat :=
  let c0_i32_102 : BitVec 32 := 0#32
  let c1_i32_104 : BitVec 32 := 1#32
  let arg10 : BitVec 32 := Scf.iv c0_i32_102 c1_i32_104 k0_t2
  let c8_i32_158 : BitVec 32 := 8#32
  let v171 : BitVec 32 := Scalar.subi arg10 c8_i32_158
  let c1000_i32_159 : BitVec 32 := 1000#32
  let v172 : BitVec 32 := Scalar.muli v171 c1000_i32_159
  let c0_i32_160 : BitVec 32 := 0#32
  ![v172.toNat, 0]
def k0_off15 (k0_t2 : Fin k0_t2_loop.trips) : Fin 3 → Nat :=
  let c0_i32_102 : BitVec 32 := 0#32
  let c1_i32_104 : BitVec 32 := 1#32
  let arg10 : BitVec 32 := Scf.iv c0_i32_102 c1_i32_104 k0_t2
  let c8_i32_146 : BitVec 32 := 8#32
  let v145 : BitVec 32 := Scalar.remsi arg10 c8_i32_146
  let c0_i32_161 : BitVec 32 := 0#32
  let c0_i32_162 : BitVec 32 := 0#32
  ![v145.toNat, 0, 0]
def k0_off16 (k0_t2 : Fin k0_t2_loop.trips) : Fin 2 → Nat :=
  let c0_i32_102 : BitVec 32 := 0#32
  let c1_i32_104 : BitVec 32 := 1#32
  let arg10 : BitVec 32 := Scf.iv c0_i32_102 c1_i32_104 k0_t2
  let c8_i32_149 : BitVec 32 := 8#32
  let v149 : BitVec 32 := Scalar.muli arg10 c8_i32_149
  let v150 : Index := Scalar.indexCast v149
  let c0 : Index := 0#32
  ![v150.toNat, 0]
def k0_off17 (k0_t2 : Fin k0_t2_loop.trips) : Fin 2 → Nat :=
  let c0_i32_102 : BitVec 32 := 0#32
  let c1_i32_104 : BitVec 32 := 1#32
  let arg10 : BitVec 32 := Scf.iv c0_i32_102 c1_i32_104 k0_t2
  let c1000_i32_150 : BitVec 32 := 1000#32
  let v156 : BitVec 32 := Scalar.muli arg10 c1000_i32_150
  let v157 : Index := Scalar.indexCast v156
  let c0_151 : Index := 0#32
  ![v157.toNat, 0]
def k0_off18 (k0_t2 : Fin k0_t2_loop.trips) : Fin 3 → Nat :=
  let c0_i32_102 : BitVec 32 := 0#32
  let c1_i32_104 : BitVec 32 := 1#32
  let arg10 : BitVec 32 := Scf.iv c0_i32_102 c1_i32_104 k0_t2
  let c8_i32_146 : BitVec 32 := 8#32
  let v145 : BitVec 32 := Scalar.remsi arg10 c8_i32_146
  let v161 : Index := Scalar.indexCast v145
  let c0_152 : Index := 0#32
  let c0_153 : Index := 0#32
  ![v161.toNat, 0, 0]
def k0_off19 (k0_t2 : Fin k0_t2_loop.trips) : Fin 1 → Nat :=
  let c0_i32_102 : BitVec 32 := 0#32
  let c1_i32_104 : BitVec 32 := 1#32
  let arg10 : BitVec 32 := Scf.iv c0_i32_102 c1_i32_104 k0_t2
  let c8_i32_146 : BitVec 32 := 8#32
  let v145 : BitVec 32 := Scalar.remsi arg10 c8_i32_146
  ![v145.toNat]
def k0_off20 (k0_t2 : Fin k0_t2_loop.trips) : Fin 2 → Nat :=
  let c0_i32_102 : BitVec 32 := 0#32
  let c1_i32_104 : BitVec 32 := 1#32
  let arg10 : BitVec 32 := Scf.iv c0_i32_102 c1_i32_104 k0_t2
  let c1000_i32_154 : BitVec 32 := 1000#32
  let v165 : BitVec 32 := Scalar.muli arg10 c1000_i32_154
  let c0_i32_155 : BitVec 32 := 0#32
  ![v165.toNat, 0]
def k0_off21 (k0_t2 : Fin k0_t2_loop.trips) : Fin 3 → Nat :=
  let c0_i32_102 : BitVec 32 := 0#32
  let c1_i32_104 : BitVec 32 := 1#32
  let arg10 : BitVec 32 := Scf.iv c0_i32_102 c1_i32_104 k0_t2
  let c8_i32_146 : BitVec 32 := 8#32
  let v145 : BitVec 32 := Scalar.remsi arg10 c8_i32_146
  let c0_i32_156 : BitVec 32 := 0#32
  let c0_i32_157 : BitVec 32 := 0#32
  ![v145.toNat, 0, 0]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩

abbrev nBuf : Space → Nat
  | .hbm => 42
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S_, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S128x1, .f32⟩
  | .hbm, ⟨8, _⟩ => ⟨S128x100000, .f32⟩
  | .hbm, ⟨9, _⟩ => ⟨S128x100000, .f32⟩
  | .hbm, ⟨10, _⟩ => ⟨S128x100000, .f32⟩
  | .hbm, ⟨11, _⟩ => ⟨S_, .f32⟩
  | .hbm, ⟨12, _⟩ => ⟨S128, .f32⟩
  | .hbm, ⟨13, _⟩ => ⟨S128x1, .f32⟩
  | .hbm, ⟨14, _⟩ => ⟨S128x1, .f32⟩
  | .hbm, ⟨15, _⟩ => ⟨S128x100000, .f32⟩
  | .hbm, ⟨16, _⟩ => ⟨S128x100000, .f32⟩
  | .hbm, ⟨17, _⟩ => ⟨S_, .f32⟩
  | .hbm, ⟨18, _⟩ => ⟨S128x100000, .f32⟩
  | .hbm, ⟨19, _⟩ => ⟨S128x100000, .f32⟩
  | .hbm, ⟨20, _⟩ => ⟨S128x100000, .f32⟩
  | .hbm, ⟨21, _⟩ => ⟨S128x100000, .f32⟩
  | .hbm, ⟨22, _⟩ => ⟨S128x100000, .f32⟩
  | .hbm, ⟨23, _⟩ => ⟨S128x100000, .f32⟩
  | .hbm, ⟨24, _⟩ => ⟨S128x100000, .f32⟩
  | .hbm, ⟨25, _⟩ => ⟨S_, .f32⟩
  | .hbm, ⟨26, _⟩ => ⟨S128x100000, .f32⟩
  | .hbm, ⟨27, _⟩ => ⟨S128x100000, .f32⟩
  | .hbm, ⟨28, _⟩ => ⟨S_, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128x1, .f32⟩
  | .hbm, ⟨34, _⟩ => ⟨S128x100000, .f32⟩
  | .hbm, ⟨35, _⟩ => ⟨S128x100000, .f32⟩
  | .hbm, ⟨36, _⟩ => ⟨S128x100000, .f32⟩
  | .hbm, ⟨37, _⟩ => ⟨S_, .f32⟩
  | .hbm, ⟨38, _⟩ => ⟨S128, .f32⟩
  | .hbm, ⟨39, _⟩ => ⟨S128x1, .f32⟩
  | .hbm, ⟨40, _⟩ => ⟨S128x100000, .f32⟩
  | .hbm, ⟨41, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]
-- ==== Proof.Blocks.lean ====
/- Holding a block of a buffer by what a view reads off it, and the memory operations in those terms. -/
module

public import Idealize.ShloMosaic.Lib.Transfers
public import Idealize.ShloMosaic.Lib.Ring

@[expose] public section

noncomputable section

namespace Cert.Blocks

open Idealize.ShloMosaic Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

section Assertions

variable (c : Thread nD τ) {sp : Space} {s s' : Shape} {e : EltTy}

/-- Share `q` of the elements under the view, which reads `X` off them. -/
def Has (v : View sig c.2.kind sp s e) (q : PosShare TreeShare) (X : s.Idx → Val e) : sProp 𝕄 :=
  iprop(∃ f : Buf Val (v.loc c), (v.loc c ↦[v.set]{q} f) ∗ ⌜v.read Val f = X⌝)

/-- The elements under the view, whatever they hold. -/
def Room (v : View sig c.2.kind sp s e) : sProp 𝕄 :=
  iprop(∃ f : Buf Val (v.loc c), v.loc c ↦[v.set]{fullShare} f)

theorem has_room (v : View sig c.2.kind sp s e) (X : s.Idx → Val e) : (Has c v fullShare X : sProp 𝕄) ⊢ Room c v := by
  unfold Has Room
  iintro ⟨%f, H, -⟩
  iexists f; iexact H

/-- Elements held at known contents are held by what the view reads. -/
theorem has_intro (v : View sig c.2.kind sp s e) (q : PosShare TreeShare) (f : Buf Val (v.loc c)) :
    (v.loc c ↦[v.set]{q} f : sProp 𝕄) ⊢ Has c v q (v.read Val f) := by
  unfold Has
  iintro H
  iexists f
  isplitl [H]; · iexact H
  ipureintro; rfl

/-- A block counted by another shape is the same block: what the one view reads, the other reads re-indexed. -/
theorem has_of_reshape (v : View sig c.2.kind sp s e) (h : s'.numel = s.numel) (q : PosShare TreeShare) (X : s'.Idx → Val e) :
    (Has c (v.reshape s' h) q X : sProp 𝕄) ⊢ Has c v q (fun j => X ((Shape.reshapeEquiv h).symm j)) := by
  unfold Has
  rw [View.set_reshape]
  iintro ⟨%f, H, %hf⟩
  iexists f
  isplitl [H]; · iexact H
  ipureintro
  funext j
  rw [← hf]
  show _ = v.read Val f (Shape.reshapeEquiv h ((Shape.reshapeEquiv h).symm j))
  rw [Equiv.apply_symm_apply]

theorem has_to_reshape (v : View sig c.2.kind sp s e) (h : s'.numel = s.numel) (q : PosShare TreeShare) (X : s.Idx → Val e) :
    (Has c v q X : sProp 𝕄) ⊢ Has c (v.reshape s' h) q (fun j => X (Shape.reshapeEquiv h j)) := by
  unfold Has
  rw [View.set_reshape]
  iintro ⟨%f, H, %hf⟩
  iexists f
  isplitl [H]; · iexact H
  ipureintro
  funext j
  rw [← hf]
  rfl

theorem room_reshape (v : View sig c.2.kind sp s e) (h : s'.numel = s.numel) :
    (Room c (v.reshape s' h) : sProp 𝕄) = Room c v := by
  unfold Room
  rw [View.set_reshape]

theorem has_room_reshape (v : View sig c.2.kind sp s e) (h : s'.numel = s.numel) (X : s'.Idx → Val e) :
    Has c (v.reshape s' h) fullShare X ⊢ (Room c v : sProp 𝕄) := by
  rw [← room_reshape c v h]
  exact has_room _ _ _

end Assertions

section Rules

variable [Preorder Lvl] {Λ : Labels} {defs : Defs nD τ sig Val Λ} (𝒱 : Variants) (c : Thread nD τ) (bd : Option 𝒱.V)
variable {sp sp' : Space} {s : Shape} {e : EltTy}
variable {β : Type} {Q : β → sProp (MT nD τ sig Ix Val Name U Lvl)}

/-- A load of a rectangle held reads what the rectangle's view reads, and keeps it. -/
theorem load_has {cs : CoreSpace} {m : Memref sig c.2.kind cs s e} {r : Rect s} {hl : m.view.LoadsAt r.toLoadRect}
    {k : (r.shape.Idx → Val e) → Prog (TpuEff nD τ sig Val Λ c.2) β} {q : PosShare TreeShare} {X : r.shape.Idx → Val e} :
    (Has c (m.access r) q X : sProp 𝕄)
      ⊢ iprop((Has c (m.access r) q X -∗ wp frame (wpE defs 𝒱 c bd) Set.univ (k X) Q)
        -∗ wp frame (wpE defs 𝒱 c bd) Set.univ (.op (.load m r.toLoadRect hl) k) Q) := by
  unfold Has
  iintro ⟨%f, H, %hf⟩ Hk
  subst hf
  iapply (wp_load_rect 𝒱 c bd Set.univ (Finset.Subset.refl _)) $$ H
  iintro H
  iapply Hk
  iexists f
  isplitl [H]; · iexact H
  ipureintro; rfl

/-- A load of a rectangle whose contents do not matter: the loaded value is some value. -/
theorem load_room {cs : CoreSpace} {m : Memref sig c.2.kind cs s e} {r : Rect s} {hl : m.view.LoadsAt r.toLoadRect}
    {k : (r.shape.Idx → Val e) → Prog (TpuEff nD τ sig Val Λ c.2) β} :
    (Room c (m.access r) : sProp 𝕄)
      ⊢ iprop((∀ X, Room c (m.access r) -∗ wp frame (wpE defs 𝒱 c bd) Set.univ (k X) Q)
        -∗ wp frame (wpE defs 𝒱 c bd) Set.univ (.op (.load m r.toLoadRect hl) k) Q) := by
  unfold Room
  iintro ⟨%f, H⟩ Hk
  iapply (wp_load_rect 𝒱 c bd Set.univ (Finset.Subset.refl _)) $$ H
  iintro H
  iapply Hk
  iexists f
  iexact H

/-- A store over a whole rectangle leaves what was stored. -/
theorem store_has {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) β} :
    (Room c (m.access r) : sProp 𝕄)
      ⊢ iprop((Has c (m.access r) fullShare w -∗ wp frame (wpE defs 𝒱 c bd) Set.univ (k ⟨⟩) Q)
        -∗ wp frame (wpE defs 𝒱 c bd) Set.univ (.op (.store m r w Finset.univ hx hm) k) Q) := by
  unfold Room Has
  iintro ⟨%f, H⟩ Hk
  iapply (wp_store 𝒱 c bd Set.univ (View.setOn_univ (m.access r)).subset) $$ H
  iintro H
  iapply Hk
  iexists ((m.access r).write Val f w Finset.univ)
  isplitl [H]; · iexact H
  ipureintro
  exact View.read_write_univ (v := m.access r) f w

variable (EC : UEmb Counters (MT nD τ sig Ix Val Name U Lvl))

/-- Starting a copy of a block into free room on a cell at zero: what stays is the copy in flight, which delivers
    the destination reading what the source read, and the source back. -/
theorem start_has [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) β} {q : PosShare TreeShare} {X : s.Idx → Val e}
    (ι : Ix) (N : ℕ) (hN : dst.view.amount sm = N) (hN0 : 0 < N) :
    iprop(Has c src.view q X ∗ Room c dst.view ∗ semVal (c, sm) 0)
      ⊢ iprop((Transfers.Flight EC c sm ι N iprop(Has c dst.view fullShare X ∗ Has c src.view q X)
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  unfold Has Room
  icases Hs with ⟨%fs, Hs, %hf⟩
  icases Hd with ⟨%fd, Hd⟩
  iapply (Transfers.wp_dmaLocal EC 𝒱 c bd ι N hN hN0 (Finset.Subset.refl _)) $$ [Hs Hd Hv]
  · isplitl [Hs]; · iexact Hs
    isplitl [Hd] <;> iassumption
  iintro HF
  iapply Hk
  iapply (Transfers.Flight_mono EC c (D := iprop((dst.view.loc c ↦[dst.view.set]{fullShare} (dst.view.write Val fd (src.view.read Val fs) Finset.univ))
                                    ∗ (src.view.loc c ↦[src.view.set]{q} fs))) _) $$ HF
  iintro ⟨Hd, Hs⟩
  isplitl [Hd]
  · iexists _
    isplitl [Hd]; · iexact Hd
    ipureintro
    rw [View.read_write_univ, hf]
  · iexists fs
    isplitl [Hs]; · iexact Hs
    ipureintro; exact hf

end Rules

end Cert.Blocks

end
-- ==== Proof.Whole.lean ====
/- A buffer held whole and the same buffer held block by block. -/
module

public import proofs.«01_k».proof.Proof.Blocks

@[expose] public section

noncomputable section

namespace Cert.Whole

open Idealize.ShloMosaic Idealize.SL Idealize.SL.RA Idealize.SL.BI
open scoped Idealize.SL.BI
open Idealize.SL.BI.BIBase Idealize.SL.BI.Laws Idealize.SL.ProofMode Idealize.SL.Sem
open Cert.Blocks

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable (c : Thread nD τ) (b : Ref sig c.2.kind) {B : Type} [Fintype B] [DecidableEq B] (r : B → Rect b.ty.shape)
  (hd : ∀ i j, i ≠ j → Disjoint (r i).set (r j).set) (hc : Finset.univ.biUnion (fun i => (r i).set) = Finset.univ)

/-- The block of buffer `b` in rectangle `r i`. -/
abbrev block (i : B) : View sig c.2.kind b.space (r i).shape b.ty.elt := (Memref.whole b).access (r i)

theorem block_set (i : B) : (block c b r i).set = (r i).set := View.set_slice_whole b (r i)

include hd hc in
/-- A whole buffer at one contents is its blocks at that contents. -/
theorem blocks_eq (q : PosShare TreeShare) (f : Buf Val (c.loc b)) :
    (c.loc b ↦{q} f : sProp 𝕄) = bigSep Finset.univ fun i => c.loc b ↦[(block c b r i).set]{q} f :=
  Ring.pointsTo_blocks (ℓ := c.loc b) (fun i => (block c b r i).set)
    (fun i j h => by rw [block_set, block_set]; exact hd i j h) (by simp only [block_set]; exact hc) f

include hd hc in
/-- A whole buffer splits into blocks, each holding what its view reads. -/
theorem split (q : PosShare TreeShare) (f : Buf Val (c.loc b)) :
    (c.loc b ↦{q} f : sProp 𝕄) ⊢ bigSep Finset.univ fun i => Has c (block c b r i) q ((block c b r i).read Val f) := by
  rw [blocks_eq c b r hd hc]
  exact bigSep_mono fun i _ => has_intro c (block c b r i) q f

/-- A block that holds what its view reads off a contents holds that contents. -/
theorem has_exact (i : B) (q : PosShare TreeShare) (f : Buf Val (c.loc b)) :
    (Has c (block c b r i) q ((block c b r i).read Val f) : sProp 𝕄) ⊢ (block c b r i).loc c ↦[(block c b r i).set]{q} f := by
  unfold Has
  iintro ⟨%g, H, %hg⟩
  have e : ((block c b r i).loc c ↦[(block c b r i).set]{q} g : sProp 𝕄) ⊢ (block c b r i).loc c ↦[(block c b r i).set]{q} f := by
    rw [pointsTo_congr (g := f) fun j hj => ?_]
    obtain ⟨z, -, rfl⟩ := Finset.mem_map.mp hj
    exact congrFun hg z
  iapply e $$ H

include hd hc in
/-- Blocks that hold what the views read off one contents join to the buffer at that contents. -/
theorem join (q : PosShare TreeShare) (f : Buf Val (c.loc b)) :
    bigSep Finset.univ (fun i => Has c (block c b r i) q ((block c b r i).read Val f)) ⊢ (c.loc b ↦{q} f : sProp 𝕄) := by
  rw [blocks_eq c b r hd hc]
  exact bigSep_mono fun i _ => has_exact c b r i q f

include hd hc in
theorem split_room : (iprop(∃ f, c.loc b ↦{fullShare} f) : sProp 𝕄) ⊢ bigSep Finset.univ fun i => Room c (block c b r i) := by
  iintro ⟨%f, H⟩
  have h := (split (Ix := Ix) (Name := Name) (U := U) (Lvl := Lvl) c b r hd hc fullShare f).trans
    (bigSep_mono fun i _ => has_room c (block c b r i) _)
  iapply h $$ H

include hd hc in
theorem join_room [∀ e, Nonempty (Val e)] : bigSep Finset.univ (fun i => Room c (block c b r i)) ⊢ (iprop(∃ f, c.loc b ↦{fullShare} f) : sProp 𝕄) :=
  Ring.pointsTo_blocks_join_exists (ℓ := c.loc b) (fun i => (block c b r i).set)
    (fun i j h => by rw [block_set, block_set]; exact hd i j h) (by simp only [block_set]; exact hc) (fun _ => Classical.arbitrary _)

end Cert.Whole

end
-- ==== Proof.Places.lean ====
/- The blocks, slots and cells of the kernel's buffers, and its memory operations on them. -/
module

public import proofs.«01_k».proof.Proof.Blocks
public import proofs.«01_k».proof.Proof.Gen.KernelIdeal.Skeleton

@[expose] public section

noncomputable section

namespace Cert.KernelIdeal.Places

open Idealize.ShloMosaic Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Blocks

/-- Where block `b` of a 100000-row array starts. -/
abbrev rowOff (b : Fin 100) : Fin 2 → ℕ := ![1000 * b.val, 0]
/-- Where the eight rows of block `b`'s maximum start. -/
abbrev maxOff (b : Fin 100) : Fin 2 → ℕ := ![8 * b.val, 0]
/-- Where slot `r` of a ring of blocks starts. -/
abbrev slotOff {n : ℕ} (r : Fin n) : Fin 3 → ℕ := ![r.val, 0, 0]
/-- Where cell `r` of a row of cells is. -/
abbrev cellOff {n : ℕ} (r : Fin n) : Fin 1 → ℕ := ![r.val]

theorem row_inb (b : Fin 100) : ∀ a, rowOff b a + S1000x128.size a ≤ S100000x128.size a := by
  revert b; decide +kernel
theorem max_inb (b : Fin 100) : ∀ a, maxOff b a + S8x128.size a ≤ S800x128.size a := by
  revert b; decide +kernel
theorem slot10_inb (r : Fin 10) : ∀ a, slotOff r a + S1x1000x128.size a ≤ S10x1000x128.size a := by
  revert r; decide +kernel
theorem slot8_inb (r : Fin 8) : ∀ a, slotOff r a + S1x1000x128.size a ≤ S8x1000x128.size a := by
  revert r; decide +kernel
theorem cell100_inb (r : Fin 100) : ∀ a, cellOff r a + S1.size a ≤ S100.size a := by
  revert r; decide +kernel
theorem cell10_inb (r : Fin 10) : ∀ a, cellOff r a + S1.size a ≤ S10.size a := by
  revert r; decide +kernel
theorem cell8_inb (r : Fin 8) : ∀ a, cellOff r a + S1.size a ≤ S8.size a := by
  revert r; decide +kernel

abbrev rowRect (b : Fin 100) : Rect S100000x128 := Rect.unit (rowOff b) S1000x128.size (row_inb b)
abbrev maxRect (b : Fin 100) : Rect S800x128 := Rect.unit (maxOff b) S8x128.size (max_inb b)
abbrev slot10Rect (r : Fin 10) : Rect S10x1000x128 := Rect.unit (slotOff r) S1x1000x128.size (slot10_inb r)
abbrev slot8Rect (r : Fin 8) : Rect S8x1000x128 := Rect.unit (slotOff r) S1x1000x128.size (slot8_inb r)

variable {sp : Space}

/-- Block `b` of a 100000-row array. -/
abbrev rows (m : Memref sig .tc sp S100000x128 .f32) (b : Fin 100) : View sig .tc sp S1000x128 .f32 := m.access (rowRect b)
/-- The eight rows of block `b`'s maximum. -/
abbrev maxs (m : Memref sig .tc sp S800x128 .f32) (b : Fin 100) : View sig .tc sp S8x128 .f32 := m.access (maxRect b)
abbrev slot10 (m : Memref sig .tc sp S10x1000x128 .f32) (r : Fin 10) : View sig .tc sp S1x1000x128 .f32 := m.access (slot10Rect r)
abbrev slot8 (m : Memref sig .tc sp S8x1000x128 .f32) (r : Fin 8) : View sig .tc sp S1x1000x128 .f32 := m.access (slot8Rect r)
abbrev cell100 (a : DmaSems sig S100) (r : Fin 100) : DmaSem sig :=
  ((a.slice (Rect.unit (cellOff r) S1.size (cell100_inb r))).squeeze S_ squeezes_S1_S_).sem
abbrev cell10 (a : DmaSems sig S10) (r : Fin 10) : DmaSem sig :=
  ((a.slice (Rect.unit (cellOff r) S1.size (cell10_inb r))).squeeze S_ squeezes_S1_S_).sem
abbrev cell8 (a : DmaSems sig S8) (r : Fin 8) : DmaSem sig :=
  ((a.slice (Rect.unit (cellOff r) S1.size (cell8_inb r))).squeeze S_ squeezes_S1_S_).sem

/-- A block of rows as one slot of a ring, and back. -/
def asSlot {T : Type} (X : S1000x128.Idx → T) : S1x1000x128.Idx → T :=
  fun j => X ((Shape.reshapeEquiv squeezes_S1x1000x128_S1000x128.numel_eq).symm j)
def ofSlot {T : Type} (X : S1x1000x128.Idx → T) : S1000x128.Idx → T :=
  fun j => X (Shape.reshapeEquiv squeezes_S1x1000x128_S1000x128.numel_eq j)

section Rules

variable {F : FTy → Type} [FloatOps F]
variable {U : Type} [URA U]
variable {Λ : Labels} {defs : Defs nD τ sig (Elt F) Λ} (𝒱 : Variants) (c : Dev nD) (bd : Option 𝒱.V)
variable {β : Type} {Q : β → sProp (MT nD τ sig Unit (Elt F) ℕ U ℕ)}
variable (EC : UEmb Counters (MT nD τ sig Unit (Elt F) ℕ U ℕ))

local notation "𝕄" => MT nD τ sig Unit (Elt F) ℕ U ℕ

/-- Loads and stores at a rectangle whose offset is known by an equation. -/
theorem load_at {cs : CoreSpace} {s : Shape} {m : Memref sig .tc cs s .f32} {off off' size : Fin s.rank → ℕ}
    {inb : ∀ a, off a + size a ≤ s.size a} (inb' : ∀ a, off' a + size a ≤ s.size a) (h : off = off')
    {hl : m.view.LoadsAt (Rect.unit off size inb).toLoadRect}
    {k : ((Rect.unit off size inb).shape.Idx → Elt F .f32) → Prog (TpuEff nD τ sig (Elt F) Λ .tc) β} {q : PosShare TreeShare}
    {X : (Rect.unit off' size inb').shape.Idx → Elt F .f32} :
    (Has c.tc (m.access (Rect.unit off' size inb')) q X : sProp 𝕄)
      ⊢ iprop((Has c.tc (m.access (Rect.unit off' size inb')) q X -∗ wp frame (wpE defs 𝒱 c.tc bd) Set.univ (k X) Q)
        -∗ wp frame (wpE defs 𝒱 c.tc bd) Set.univ (Prog.lift (.load m (Rect.unit off size inb).toLoadRect hl) >>= k) Q) := by
  subst h; exact load_has 𝒱 c.tc bd

theorem peek_at {cs : CoreSpace} {s : Shape} {m : Memref sig .tc cs s .f32} {off off' size : Fin s.rank → ℕ}
    {inb : ∀ a, off a + size a ≤ s.size a} (inb' : ∀ a, off' a + size a ≤ s.size a) (h : off = off')
    {hl : m.view.LoadsAt (Rect.unit off size inb).toLoadRect}
    {k : ((Rect.unit off size inb).shape.Idx → Elt F .f32) → Prog (TpuEff nD τ sig (Elt F) Λ .tc) β} :
    (Room c.tc (m.access (Rect.unit off' size inb')) : sProp 𝕄)
      ⊢ iprop((∀ X, Room c.tc (m.access (Rect.unit off' size inb')) -∗ wp frame (wpE defs 𝒱 c.tc bd) Set.univ (k X) Q)
        -∗ wp frame (wpE defs 𝒱 c.tc bd) Set.univ (Prog.lift (.load m (Rect.unit off size inb).toLoadRect hl) >>= k) Q) := by
  subst h; exact load_room 𝒱 c.tc bd

theorem store_at {cs : CoreSpace} {s : Shape} {m : Memref sig .tc cs s .f32} {off off' size : Fin s.rank → ℕ}
    {inb : ∀ a, off a + size a ≤ s.size a} (inb' : ∀ a, off' a + size a ≤ s.size a) (h : off = off')
    {w : (Rect.unit off size inb).shape.Idx → Elt F .f32}
    {hx : (m.access (Rect.unit off size inb)).Stores Finset.univ}
    {hm : Finset.univ = Finset.univ ∨ ∀ a, (Rect.unit off size inb).stride a = 1}
    {k : PUnit → Prog (TpuEff nD τ sig (Elt F) Λ .tc) β} :
    (Room c.tc (m.access (Rect.unit off' size inb')) : sProp 𝕄)
      ⊢ iprop((Has c.tc (m.access (Rect.unit off' size inb')) fullShare w -∗ wp frame (wpE defs 𝒱 c.tc bd) Set.univ (k ⟨⟩) Q)
        -∗ wp frame (wpE defs 𝒱 c.tc bd) Set.univ (Prog.lift (.store m (Rect.unit off size inb) w Finset.univ hx hm) >>= k) Q) := by
  subst h; exact store_has 𝒱 c.tc bd

theorem block_pos : 0 < S1000x128.numel := by decide +kernel

/-- Starting the copy of a block of rows into a block of rows. -/
theorem start_rows [EC.LandsIn (upEmb : UEmb _ 𝕄)] {sp sp' : Space} {m : Memref sig .tc sp S100000x128 .f32} {m' : Memref sig .tc sp' S100000x128 .f32}
    {a : DmaSems sig S100} (b : Fin 100) {o : Fin 2 → ℕ} {o₁ : Fin 1 → ℕ} (h : o = rowOff b) (h₁ : o₁ = cellOff b)
    {inb : ∀ a, o a + S1000x128.size a ≤ S100000x128.size a} {inb₁ : ∀ a, o₁ a + S1.size a ≤ S100.size a}
    {hu hu'} {hsrc hdst hsem}
    {k : PUnit → Prog (TpuEff nD τ sig (Elt F) Λ .tc) β} {q : PosShare TreeShare} {X : S1000x128.Idx → Elt F .f32} :
    iprop(Has c.tc (rows m b) q X ∗ Room c.tc (rows m' b) ∗ semVal (c.tc, .dma (cell100 a b)) 0)
      ⊢ iprop((Transfers.Flight EC c.tc (.dma (cell100 a b)) () (rows m' b).dmaCredit iprop(Has c.tc (rows m' b) fullShare X ∗ Has c.tc (rows m b) q X)
              -∗ wp frame (wpE defs 𝒱 c.tc bd) Set.univ (k ⟨⟩) Q)
          -∗ wp frame (wpE defs 𝒱 c.tc bd) Set.univ
            (Prog.lift (.enqueueDma (m.slice (Rect.unit o S1000x128.size inb) hu) (.here (m'.slice (Rect.unit o S1000x128.size inb) hu'))
              (.dma ((a.slice (Rect.unit o₁ S1.size inb₁)).squeeze S_ squeezes_S1_S_).sem) hsrc hdst hsem) >>= k) Q) := by
  subst h h₁
  exact start_has 𝒱 c.tc bd EC (src := m.slice (rowRect b) hu) (dst := m'.slice (rowRect b) hu') () _ rfl (View.dmaCredit_pos _ block_pos)

/-- Starting the copy of a block of rows into a slot of the ring of ten. -/
theorem start_in [EC.LandsIn (upEmb : UEmb _ 𝕄)] {sp sp' : Space} {m : Memref sig .tc sp S100000x128 .f32} {m' : Memref sig .tc sp' S10x1000x128 .f32}
    {a : DmaSems sig S10} (b : Fin 100) (r : Fin 10) {o : Fin 2 → ℕ} {o₁ : Fin 1 → ℕ} {o₂ : Fin 3 → ℕ}
    (h : o = rowOff b) (h₁ : o₁ = cellOff r) (h₂ : o₂ = slotOff r)
    {inb : ∀ a, o a + S1000x128.size a ≤ S100000x128.size a} {inb₁ : ∀ a, o₁ a + S1.size a ≤ S10.size a}
    {inb₂ : ∀ a, o₂ a + S1x1000x128.size a ≤ S10x1000x128.size a}
    {hu hu'} {hsrc hdst hsem}
    {k : PUnit → Prog (TpuEff nD τ sig (Elt F) Λ .tc) β} {q : PosShare TreeShare} {X : S1000x128.Idx → Elt F .f32} :
    iprop(Has c.tc (rows m b) q X ∗ Room c.tc (slot10 m' r) ∗ semVal (c.tc, .dma (cell10 a r)) 0)
      ⊢ iprop((Transfers.Flight EC c.tc (.dma (cell10 a r)) () ((slot10 m' r).reshape S1000x128 squeezes_S1x1000x128_S1000x128.numel_eq).dmaCredit
                  iprop(Has c.tc (slot10 m' r) fullShare (asSlot X) ∗ Has c.tc (rows m b) q X)
              -∗ wp frame (wpE defs 𝒱 c.tc bd) Set.univ (k ⟨⟩) Q)
          -∗ wp frame (wpE defs 𝒱 c.tc bd) Set.univ
            (Prog.lift (.enqueueDma (m.slice (Rect.unit o S1000x128.size inb) hu)
              (.here ((m'.slice (Rect.unit o₂ S1x1000x128.size inb₂) hu').squeeze S1000x128 squeezes_S1x1000x128_S1000x128))
              (.dma ((a.slice (Rect.unit o₁ S1.size inb₁)).squeeze S_ squeezes_S1_S_).sem) hsrc hdst hsem) >>= k) Q) := by
  subst h h₁ h₂
  iintro ⟨Hs, Hd, Hv⟩ Hk
  iapply (start_has 𝒱 c.tc bd EC (src := m.slice (rowRect b) hu)
    (dst := (m'.slice (slot10Rect r) hu').squeeze S1000x128 squeezes_S1x1000x128_S1000x128) () _ rfl (View.dmaCredit_pos _ block_pos)) $$ [Hs Hd Hv]
  · isplitl [Hs]; · iexact Hs
    isplitl [Hd]
    · iapply (Entails.of_eq (room_reshape c.tc (slot10 m' r) squeezes_S1x1000x128_S1000x128.numel_eq).symm) $$ Hd
    iexact Hv
  iintro HF
  iapply Hk
  iapply (Transfers.Flight_mono EC c.tc (sep_mono (has_of_reshape c.tc (slot10 m' r) squeezes_S1x1000x128_S1000x128.numel_eq fullShare X) .rfl)) $$ HF

/-- Starting the copy of a slot of the ring of eight into a block of rows. -/
theorem start_out [EC.LandsIn (upEmb : UEmb _ 𝕄)] {sp sp' : Space} {m : Memref sig .tc sp S8x1000x128 .f32} {m' : Memref sig .tc sp' S100000x128 .f32}
    {a : DmaSems sig S8} (b : Fin 100) (r : Fin 8) {o : Fin 2 → ℕ} {o₁ : Fin 1 → ℕ} {o₂ : Fin 3 → ℕ}
    (h : o = rowOff b) (h₁ : o₁ = cellOff r) (h₂ : o₂ = slotOff r)
    {inb : ∀ a, o a + S1000x128.size a ≤ S100000x128.size a} {inb₁ : ∀ a, o₁ a + S1.size a ≤ S8.size a}
    {inb₂ : ∀ a, o₂ a + S1x1000x128.size a ≤ S8x1000x128.size a}
    {hu hu'} {hsrc hdst hsem}
    {k : PUnit → Prog (TpuEff nD τ sig (Elt F) Λ .tc) β} {q : PosShare TreeShare} {X : S1x1000x128.Idx → Elt F .f32} :
    iprop(Has c.tc (slot8 m r) q X ∗ Room c.tc (rows m' b) ∗ semVal (c.tc, .dma (cell8 a r)) 0)
      ⊢ iprop((Transfers.Flight EC c.tc (.dma (cell8 a r)) () (rows m' b).dmaCredit
                  iprop(Has c.tc (rows m' b) fullShare (ofSlot X)
                    ∗ Has c.tc ((slot8 m r).reshape S1000x128 squeezes_S1x1000x128_S1000x128.numel_eq) q (ofSlot X))
              -∗ wp frame (wpE defs 𝒱 c.tc bd) Set.univ (k ⟨⟩) Q)
          -∗ wp frame (wpE defs 𝒱 c.tc bd) Set.univ
            (Prog.lift (.enqueueDma ((m.slice (Rect.unit o₂ S1x1000x128.size inb₂) hu').squeeze S1000x128 squeezes_S1x1000x128_S1000x128)
              (.here (m'.slice (Rect.unit o S1000x128.size inb) hu))
              (.dma ((a.slice (Rect.unit o₁ S1.size inb₁)).squeeze S_ squeezes_S1_S_).sem) hsrc hdst hsem) >>= k) Q) := by
  subst h h₁ h₂
  iintro ⟨Hs, Hd, Hv⟩ Hk
  iapply (start_has 𝒱 c.tc bd EC (src := (m.slice (slot8Rect r) hu').squeeze S1000x128 squeezes_S1x1000x128_S1000x128)
    (dst := m'.slice (rowRect b) hu) () _ rfl (View.dmaCredit_pos _ block_pos)) $$ [Hs Hd Hv]
  · isplitl [Hs]
    · iapply (has_to_reshape c.tc (slot8 m r) squeezes_S1x1000x128_S1000x128.numel_eq q X) $$ Hs
    isplitl [Hd]; · iexact Hd
    iexact Hv
  iintro HF
  iapply Hk
  iexact HF

/-- Waiting for a copy of a block on its cell of the row of a hundred, -/
theorem wait_rows [EC.LandsIn (upEmb : UEmb _ 𝕄)] {sp sp' : Space} {m : Memref sig .tc sp S100000x128 .f32} {m' : Memref sig .tc sp' S100000x128 .f32}
    {a : DmaSems sig S100} (b : Fin 100) {o : Fin 2 → ℕ} {o₁ : Fin 1 → ℕ} (h : o = rowOff b) (h₁ : o₁ = cellOff b)
    {inb : ∀ a, o a + S1000x128.size a ≤ S100000x128.size a} {inb₁ : ∀ a, o₁ a + S1.size a ≤ S100.size a}
    {hu hu'} {hsrc hdst}
    {k : PUnit → Prog (TpuEff nD τ sig (Elt F) Λ .tc) β} {D : sProp 𝕄} {W : Waits sig Unit} :
    iprop(Transfers.Flight EC c.tc (.dma (cell100 a b)) () (rows m' b).dmaCredit D ∗ owes c.tc 0 W)
      ⊢ iprop((iprop(D ∗ semVal (c.tc, .dma (cell100 a b)) 0 ∗ owes c.tc 0 (insert (SemLoc.dma (cell100 a b), ()) W))
              -∗ wp frame (wpE defs 𝒱 c.tc bd) Set.univ (k ⟨⟩) Q)
          -∗ wp frame (wpE defs 𝒱 c.tc bd) Set.univ
            (Prog.lift (.waitDma2 ((a.slice (Rect.unit o₁ S1.size inb₁)).squeeze S_ squeezes_S1_S_).sem
              (m.slice (Rect.unit o S1000x128.size inb) hu) (m'.slice (Rect.unit o S1000x128.size inb) hu') hsrc hdst) >>= k) Q) := by
  subst h h₁
  exact Transfers.wp_waitLocal EC 𝒱 c.tc bd (srcw := m.slice (rowRect b) hu) (dstw := m'.slice (rowRect b) hu') () rfl

/-- for a copy into a slot of the ring of ten, -/
theorem wait_in [EC.LandsIn (upEmb : UEmb _ 𝕄)] {sp sp' : Space} {m : Memref sig .tc sp S100000x128 .f32} {m' : Memref sig .tc sp' S10x1000x128 .f32}
    {a : DmaSems sig S10} (b : Fin 100) (r : Fin 10) {o : Fin 2 → ℕ} {o₁ : Fin 1 → ℕ} {o₂ : Fin 3 → ℕ}
    (h : o = rowOff b) (h₁ : o₁ = cellOff r) (h₂ : o₂ = slotOff r)
    {inb : ∀ a, o a + S1000x128.size a ≤ S100000x128.size a} {inb₁ : ∀ a, o₁ a + S1.size a ≤ S10.size a}
    {inb₂ : ∀ a, o₂ a + S1x1000x128.size a ≤ S10x1000x128.size a}
    {hu hu'} {hsrc hdst}
    {k : PUnit → Prog (TpuEff nD τ sig (Elt F) Λ .tc) β} {D : sProp 𝕄} {W : Waits sig Unit} :
    iprop(Transfers.Flight EC c.tc (.dma (cell10 a r)) () ((slot10 m' r).reshape S1000x128 squeezes_S1x1000x128_S1000x128.numel_eq).dmaCredit D ∗ owes c.tc 0 W)
      ⊢ iprop((iprop(D ∗ semVal (c.tc, .dma (cell10 a r)) 0 ∗ owes c.tc 0 (insert (SemLoc.dma (cell10 a r), ()) W))
              -∗ wp frame (wpE defs 𝒱 c.tc bd) Set.univ (k ⟨⟩) Q)
          -∗ wp frame (wpE defs 𝒱 c.tc bd) Set.univ
            (Prog.lift (.waitDma2 ((a.slice (Rect.unit o₁ S1.size inb₁)).squeeze S_ squeezes_S1_S_).sem
              (m.slice (Rect.unit o S1000x128.size inb) hu)
              ((m'.slice (Rect.unit o₂ S1x1000x128.size inb₂) hu').squeeze S1000x128 squeezes_S1x1000x128_S1000x128) hsrc hdst) >>= k) Q) := by
  subst h h₁ h₂
  exact Transfers.wp_waitLocal EC 𝒱 c.tc bd (srcw := m.slice (rowRect b) hu)
    (dstw := (m'.slice (slot10Rect r) hu').squeeze S1000x128 squeezes_S1x1000x128_S1000x128) () rfl

/-- and for a copy out of a slot of the ring of eight. -/
theorem wait_out [EC.LandsIn (upEmb : UEmb _ 𝕄)] {sp sp' : Space} {m : Memref sig .tc sp S8x1000x128 .f32} {m' : Memref sig .tc sp' S100000x128 .f32}
    {a : DmaSems sig S8} (b : Fin 100) (r : Fin 8) {o : Fin 2 → ℕ} {o₁ : Fin 1 → ℕ} {o₂ : Fin 3 → ℕ}
    (h : o = rowOff b) (h₁ : o₁ = cellOff r) (h₂ : o₂ = slotOff r)
    {inb : ∀ a, o a + S1000x128.size a ≤ S100000x128.size a} {inb₁ : ∀ a, o₁ a + S1.size a ≤ S8.size a}
    {inb₂ : ∀ a, o₂ a + S1x1000x128.size a ≤ S8x1000x128.size a}
    {hu hu'} {hsrc hdst}
    {k : PUnit → Prog (TpuEff nD τ sig (Elt F) Λ .tc) β} {D : sProp 𝕄} {W : Waits sig Unit} :
    iprop(Transfers.Flight EC c.tc (.dma (cell8 a r)) () (rows m' b).dmaCredit D ∗ owes c.tc 0 W)
      ⊢ iprop((iprop(D ∗ semVal (c.tc, .dma (cell8 a r)) 0 ∗ owes c.tc 0 (insert (SemLoc.dma (cell8 a r), ()) W))
              -∗ wp frame (wpE defs 𝒱 c.tc bd) Set.univ (k ⟨⟩) Q)
          -∗ wp frame (wpE defs 𝒱 c.tc bd) Set.univ
            (Prog.lift (.waitDma2 ((a.slice (Rect.unit o₁ S1.size inb₁)).squeeze S_ squeezes_S1_S_).sem
              ((m.slice (Rect.unit o₂ S1x1000x128.size inb₂) hu').squeeze S1000x128 squeezes_S1x1000x128_S1000x128)
              (m'.slice (Rect.unit o S1000x128.size inb) hu) hsrc hdst) >>= k) Q) := by
  subst h h₁ h₂
  exact Transfers.wp_waitLocal EC 𝒱 c.tc bd (srcw := (m.slice (slot8Rect r) hu').squeeze S1000x128 squeezes_S1x1000x128_S1000x128)
    (dstw := m'.slice (rowRect b) hu) () rfl

end Rules

end Cert.KernelIdeal.Places

end
-- ==== Proof.Ring.lean ====
/- A row of blocks that are started in order and finished in order: what is held of each between the two. -/
module

public import Idealize.SL.BI.BigOp
public import Idealize.SL.ProofMode

@[expose] public section

noncomputable section

namespace Cert.Ring

open Idealize.SL Idealize.SL.RA Idealize.SL.BI
open scoped Idealize.SL.BI
open Idealize.SL.BI.BIBase Idealize.SL.BI.Laws Idealize.SL.ProofMode

variable {M : Type} [URA M] {n : ℕ} (done fly home : Fin n → sProp M)

/-- Block `b` when the blocks below `i` are finished and those below `j` started. -/
def phase (i j : ℕ) (b : Fin n) : sProp M := if b.val < i then done b else if b.val < j then fly b else home b

/-- All the blocks, those below `i` finished and those below `j` started. -/
def row (i j : ℕ) : sProp M := bigSep Finset.univ (phase done fly home i j)

theorem row_home : row done fly home 0 0 = bigSep Finset.univ home := by
  unfold row phase
  exact bigSep_congr fun b _ => by rw [if_neg (Nat.not_lt_zero _), if_neg (Nat.not_lt_zero _)]

/-- Once every block is finished, all are. -/
theorem row_done (i j : ℕ) (hi : n ≤ i) : row done fly home i j = bigSep Finset.univ done := by
  unfold row phase
  exact bigSep_congr fun b _ => by rw [if_pos (lt_of_lt_of_le b.isLt hi)]

/-- Past the last block there is nothing more to start. -/
theorem row_full (i j : ℕ) (hj : n ≤ j) : row done fly home i j = row done fly home i (j + 1) := by
  unfold row phase
  exact bigSep_congr fun b _ => by
    rw [if_pos (lt_of_lt_of_le b.isLt hj), if_pos (lt_of_lt_of_le b.isLt (Nat.le_succ_of_le hj))]

/-- Two descriptions that differ at one block: its piece comes out and the other goes in. -/
theorem swap (Φ Ψ : Fin n → sProp M) (b : Fin n) (h : ∀ a, a ≠ b → Φ a = Ψ a) :
    bigSep Finset.univ Φ ⊢ iprop(Φ b ∗ (Ψ b -∗ bigSep Finset.univ Ψ)) := by
  have e1 : bigSep Finset.univ Φ = iprop(Φ b ∗ bigSep (Finset.univ.erase b) Ψ) :=
    (bigSep_erase (Finset.mem_univ b)).trans
      (congrArg (fun R : sProp M => iprop(Φ b ∗ R)) (bigSep_congr fun a ha => h a (Finset.ne_of_mem_erase ha)))
  have e2 : bigSep Finset.univ Ψ = iprop(Ψ b ∗ bigSep (Finset.univ.erase b) Ψ) := bigSep_erase (Finset.mem_univ b)
  rw [e1, e2]
  iintro ⟨H, HR⟩
  isplitl [H]; · iexact H
  iintro H
  isplitl [H] <;> iassumption

/-- The next block to start comes out at home and goes back in flight. -/
theorem row_start (i j : ℕ) (hij : i ≤ j) (hj : j < n) :
    row done fly home i j ⊢ iprop(home ⟨j, hj⟩ ∗ (fly ⟨j, hj⟩ -∗ row done fly home i (j + 1))) := by
  have h := swap (phase done fly home i j) (phase done fly home i (j + 1)) ⟨j, hj⟩ (fun a ha => by
    have ha' : a.val ≠ j := fun e => ha (Fin.ext e)
    unfold phase
    by_cases h1 : a.val < j
    · rw [if_pos h1, if_pos (Nat.lt_succ_of_lt h1)]
    · rw [if_neg h1, if_neg (by omega : ¬ a.val < j + 1)])
  have e1 : phase done fly home i j ⟨j, hj⟩ = home ⟨j, hj⟩ := by
    unfold phase; rw [if_neg (Nat.not_lt.2 hij), if_neg (Nat.lt_irrefl _)]
  have e2 : phase done fly home i (j + 1) ⟨j, hj⟩ = fly ⟨j, hj⟩ := by
    unfold phase; rw [if_neg (Nat.not_lt.2 hij), if_pos (Nat.lt_succ_self _)]
  rw [e1, e2] at h
  exact h

/-- The next block to finish comes out in flight and goes back finished. -/
theorem row_finish (i j : ℕ) (hij : i < j) (hi : i < n) :
    row done fly home i j ⊢ iprop(fly ⟨i, hi⟩ ∗ (done ⟨i, hi⟩ -∗ row done fly home (i + 1) j)) := by
  have h := swap (phase done fly home i j) (phase done fly home (i + 1) j) ⟨i, hi⟩ (fun a ha => by
    have ha' : a.val ≠ i := fun e => ha (Fin.ext e)
    unfold phase
    by_cases h1 : a.val < i
    · rw [if_pos h1, if_pos (Nat.lt_succ_of_lt h1)]
    · rw [if_neg h1, if_neg (by omega : ¬ a.val < i + 1)])
  have e1 : phase done fly home i j ⟨i, hi⟩ = fly ⟨i, hi⟩ := by
    unfold phase; rw [if_neg (Nat.lt_irrefl _), if_pos hij]
  have e2 : phase done fly home (i + 1) j ⟨i, hi⟩ = done ⟨i, hi⟩ := by
    unfold phase; rw [if_pos (Nat.lt_succ_self _)]
  rw [e1, e2] at h
  exact h

/-- One block of a row comes out and goes back. -/
theorem borrow (Φ : Fin n → sProp M) (b : Fin n) :
    bigSep Finset.univ Φ ⊢ iprop(Φ b ∗ (Φ b -∗ bigSep Finset.univ Φ)) := swap Φ Φ b fun _ _ => rfl

/-- Pieces held for some indices only, re-indexed by those. -/
theorem some_of {M : Type} [URA M] {n m : ℕ} (p : Fin n → Prop) [DecidablePred p] (e : Fin m ↪ Fin n) (h : Finset.univ.filter p = Finset.univ.map e)
    (Φ : Fin n → sProp M) :
    (bigSep Finset.univ fun b => if p b then Φ b else iprop(emp)) = bigSep Finset.univ fun r => Φ (e r) := by
  rw [← bigSep_map e, ← h]; exact (bigSep_filter _ p Φ).symm

end Cert.Ring

end
-- ==== Proof.First.lean ====
/- The kernel's first loop: every block's exponentials against its running maximum, the maxima, and the running
   pair of maximum and sum. -/
module

public import proofs.«01_k».proof.Proof.Places
public import proofs.«01_k».proof.Proof.Ring

@[expose] public section

noncomputable section

namespace Cert.KernelIdeal.First

open Idealize.ShloMosaic Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Blocks Cert.Ring Cert.KernelIdeal.Places

variable {F : FTy → Type} [FloatOps F]

section Values

variable (X Y : Fin 100 → S1000x128.Idx → Elt F .f32)

/-- The running pair before block `k`: the maximum and the sum of the blocks before it. -/
def state : ℕ → FVec F S1x128 .f32 × FVec F S1x128 .f32
  | 0 => (k0_pay6 (F := F), k0_pay7 (F := F))
  | k + 1 =>
    if h : k < 100 then
      (k0_pay2 (state k).1 (X ⟨k, h⟩) (asSlot (Y ⟨k, h⟩)),
        k0_pay9 (state k).1 (state k).2 (k0_pay2 (state k).1 (X ⟨k, h⟩) (asSlot (Y ⟨k, h⟩)))
          (k0_pay3 (state k).1 (X ⟨k, h⟩) (asSlot (Y ⟨k, h⟩))))
    else state k

theorem state_succ (b : Fin 100) :
    state X Y (b.val + 1) = (k0_pay2 (state X Y b.val).1 (X b) (asSlot (Y b)),
      k0_pay9 (state X Y b.val).1 (state X Y b.val).2 (k0_pay2 (state X Y b.val).1 (X b) (asSlot (Y b)))
        (k0_pay3 (state X Y b.val).1 (X b) (asSlot (Y b)))) := by
  rw [state, dif_pos b.isLt]

/-- What the first loop leaves of block `b`: its exponentials, -/
def exps (b : Fin 100) : S1000x128.Idx → Elt F .f32 := k0_pay4 (state X Y b.val).1 (X b) (asSlot (Y b))

/-- and eight rows of the maximum they are taken against. -/
def tops (b : Fin 100) : S8x128.Idx → Elt F .f32 := k0_pay8 (k0_pay5 (state X Y b.val).1 (X b) (asSlot (Y b)))

end Values

variable {U : Type} [URA U]

local notation "𝕄" => MT nD τ sig Unit (Elt F) ℕ U ℕ

/-- The slot of the ring of ten that block `b` goes through. -/
abbrev r10 (b : ℕ) : Fin 10 := ⟨b % 10, Nat.mod_lt _ (by decide)⟩

section Held

variable (EC : UEmb Counters (MT nD τ sig Unit (Elt F) ℕ U ℕ)) (c : Dev nD)
  (m0 m1 : Memref sig .tc .hbm S100000x128 .f32) (m3 : Memref sig .tc .vmem S100000x128 .f32)
  (m4 : Memref sig .tc .vmem S10x1000x128 .f32) (m6 : Memref sig .tc .vmem S800x128 .f32)
  (a7 : DmaSems sig S100) (a8 : DmaSems sig S10) (X Y : Fin 100 → S1000x128.Idx → Elt F .f32)

/-- Block `b` of the logits before its copy starts: the cell at zero, the block, and room for what becomes of it. -/
def xHome (b : Fin 100) : sProp 𝕄 :=
  iprop(semVal (c.tc, .dma (cell100 a7 b)) 0 ∗ Has c.tc (rows m0 b) fullShare (X b) ∗ Room c.tc (rows m3 b) ∗ Room c.tc (maxs m6 b))

/-- Its copy in flight. -/
def xFly (b : Fin 100) : sProp 𝕄 :=
  iprop(Transfers.Flight EC c.tc (.dma (cell100 a7 b)) () (rows m3 b).dmaCredit
      iprop(Has c.tc (rows m3 b) fullShare (X b) ∗ Has c.tc (rows m0 b) fullShare (X b)) ∗ Room c.tc (maxs m6 b))

/-- The block done with: its exponentials and its maximum in place. -/
def xDone (b : Fin 100) : sProp 𝕄 :=
  iprop(semVal (c.tc, .dma (cell100 a7 b)) 0 ∗ Has c.tc (rows m0 b) fullShare (X b)
    ∗ Has c.tc (rows m3 b) fullShare (exps X Y b) ∗ Has c.tc (maxs m6 b) fullShare (tops X Y b))

/-- Slot `r` of the ring of ten, free. -/
def free10 (r : Fin 10) : sProp 𝕄 := iprop(Room c.tc (slot10 m4 r) ∗ semVal (c.tc, .dma (cell10 a8 r)) 0)

/-- Block `b` of the uniforms before its copy starts; the first ten come with their slots. -/
def uHome (b : Fin 100) : sProp 𝕄 :=
  iprop(Has c.tc (rows m1 b) fullShare (Y b) ∗ (if b.val < 10 then free10 c m4 a8 (r10 b.val) else emp))

def uFly (b : Fin 100) : sProp 𝕄 :=
  Transfers.Flight EC c.tc (.dma (cell10 a8 (r10 b.val))) ()
    ((slot10 m4 (r10 b.val)).reshape S1000x128 squeezes_S1x1000x128_S1000x128.numel_eq).dmaCredit
    iprop(Has c.tc (slot10 m4 (r10 b.val)) fullShare (asSlot (Y b)) ∗ Has c.tc (rows m1 b) fullShare (Y b))

/-- The block done with; the last ten leave their slots free. -/
def uDone (b : Fin 100) : sProp 𝕄 :=
  iprop(Has c.tc (rows m1 b) fullShare (Y b) ∗ (if 90 ≤ b.val then free10 c m4 a8 (r10 b.val) else emp))

abbrev xRow (i j : ℕ) : sProp 𝕄 := row (xDone c m0 m3 m6 a7 X Y) (xFly EC c m0 m3 m6 a7 X) (xHome c m0 m3 m6 a7 X) i j
abbrev uRow (i j : ℕ) : sProp 𝕄 := row (uDone c m1 m4 a8 Y) (uFly EC c m1 m4 a8 Y) (uHome c m1 m4 a8 Y) i j

/-- Before trip `k`: the running pair, the blocks before `k` done, twelve and ten copies in flight. -/
def inv (k : ℕ) (acc : FVec F S1x128 .f32 × FVec F S1x128 .f32) : sProp 𝕄 :=
  iprop(⌜acc = state X Y k⌝ ∗ xRow EC c m0 m3 m6 a7 X Y k (k + 12) ∗ uRow EC c m1 m4 a8 Y k (k + 10) ∗ ∃ W, owes c.tc 0 W)

end Held

theorem trips1 : k0_t1_loop.trips = 100 := by decide +kernel

theorem cond1_iff : ∀ k : Fin k0_t1_loop.trips, k0_cond1 k = 1#1 ↔ k.val + 12 < 100 := by decide +kernel
theorem cond2_iff : ∀ k : Fin k0_t1_loop.trips, k0_cond2 k = 1#1 ↔ k.val + 10 < 100 := by decide +kernel

section Run

variable {𝒱 : Variants} {bd : Option 𝒱.V}
variable (EC : UEmb Counters (MT nD τ sig Unit (Elt F) ℕ U ℕ)) [EC.LandsIn (upEmb : UEmb _ (MT nD τ sig Unit (Elt F) ℕ U ℕ))] (c : Dev nD)
variable (arg0 : Memref sig .tc .hbm S100000x128 .f32) (harg0 : arg0.IsWhole) (arg1 : Memref sig .tc .hbm S100000x128 .f32) (harg1 : arg1.IsWhole)
  (arg2 : Memref sig .tc .hbm S100000x128 .f32) (harg2 : arg2.IsWhole) (arg3 : Memref sig .tc .vmem S100000x128 .f32) (harg3 : arg3.IsWhole)
  (arg4 : Memref sig .tc .vmem S10x1000x128 .f32) (harg4 : arg4.IsWhole) (arg5 : Memref sig .tc .vmem S8x1000x128 .f32) (harg5 : arg5.IsWhole)
  (arg6 : Memref sig .tc .vmem S800x128 .f32) (harg6 : arg6.IsWhole) (arg7 : DmaSems sig S100) (arg8 : DmaSems sig S10) (arg9 : DmaSems sig S8)
variable (X Y : Fin 100 → S1000x128.Idx → Elt F .f32)

/-- The first half of a trip: wait for the trip's two blocks, and write the block's exponentials over its logits. -/
theorem trip_load (k : Fin k0_t1_loop.trips) (b : Fin 100) (hb : b.val = k.val) (p : FVec F S1x128 .f32)
    {Q : (Σ' (arg10 : BitVec 32) (v173 : FVec F S1x128 .f32) (v176 : FVec F S1000x128 .f32), FVec F S1x128 .f32) → sProp 𝕄} :
    iprop(xFly EC c arg0 arg3 arg6 arg7 X b ∗ uFly EC c arg1 arg4 arg8 Y b ∗ (∃ W, owes c.tc 0 W))
      ⊢ iprop((iprop(semVal (c.tc, .dma (cell100 arg7 b)) 0 ∗ Has c.tc (rows arg0 b) fullShare (X b)
              ∗ Has c.tc (rows arg3 b) fullShare (k0_pay4 p (X b) (asSlot (Y b))) ∗ Room c.tc (maxs arg6 b)
              ∗ Has c.tc (rows arg1 b) fullShare (Y b) ∗ free10 c arg4 arg8 (r10 b.val) ∗ (∃ W, owes c.tc 0 W))
            -∗ Q ⟨Scf.iv 0#32 1#32 k, k0_pay2 p (X b) (asSlot (Y b)), k0_pay3 p (X b) (asSlot (Y b)), k0_pay5 p (X b) (asSlot (Y b))⟩)
        -∗ wp frame (wpE (defs₀ (F := F)) 𝒱 c.tc bd) Set.univ
            (k0_part1 arg0 harg0 arg1 harg1 arg2 harg2 arg3 harg3 arg4 harg4 arg5 harg5 arg6 harg6 arg7 arg8 arg9 0#32 1#32 k p) Q) := by
  have h1 : k0_off1 k = cellOff b := by rw [k0_off1_eq, ← hb]
  have h2 : k0_off2 k = rowOff b := by rw [k0_off2_eq, ← hb]
  have h3 : k0_off3 k = cellOff (r10 b.val) := by rw [k0_off3_eq, ← hb]
  have h4 : k0_off4 k = slotOff (r10 b.val) := by rw [k0_off4_eq, ← hb]
  have h5 : k0_off5 k = rowOff b := by rw [k0_off5_eq, ← hb]
  have h6 : k0_off6 k = slotOff (r10 b.val) := by rw [k0_off6_eq, ← hb]
  rw [k0_part1_eq_skeleton]
  unfold k0_part1_skel xFly uFly free10
  iintro ⟨⟨Hx, Hm⟩, Hu, %W, HO⟩ Hk
  iapply (wait_rows 𝒱 c bd EC b h2 h1) $$ [Hx HO]
  · isplitl [Hx] <;> iassumption
  iintro ⟨⟨Hy, Hx⟩, Hs, HO⟩
  iapply (wait_in 𝒱 c bd EC b (r10 b.val) h2 h3 h4) $$ [Hu HO]
  · isplitl [Hu] <;> iassumption
  iintro ⟨⟨Hb, Hu⟩, Ht, HO⟩
  iapply (load_at 𝒱 c bd (row_inb b) h5) $$ Hy
  iintro Hy
  iapply (load_at 𝒱 c bd (slot10_inb (r10 b.val)) h6) $$ Hb
  iintro Hb
  iapply (load_at 𝒱 c bd (row_inb b) h5) $$ Hy
  iintro Hy
  ihave Hy := has_room _ _ _ $$ Hy
  iapply (store_at 𝒱 c bd (row_inb b) h5) $$ Hy
  iintro Hy
  rw [wp_pure]
  imodintro
  iapply Hk
  isplitl [Hs]; · iexact Hs
  isplitl [Hx]; · iexact Hx
  isplitl [Hy]; · iexact Hy
  isplitl [Hm]; · iexact Hm
  isplitl [Hu]; · iexact Hu
  isplitl [Hb Ht]
  · isplitl [Hb]
    · iapply (has_room _ _ _) $$ Hb
    iexact Ht
  iexists _; iexact HO

/-- The end of a trip: block `k` of the uniforms is put back, and if there is a block ten further on its copy starts into
    the slot that has come free. -/
theorem trip_end (k : Fin k0_t1_loop.trips) (hk : k.val < 100) (v : FVec F S1x128 .f32 × FVec F S1x128 .f32)
    {Q : FVec F S1x128 .f32 × FVec F S1x128 .f32 → sProp 𝕄} :
    iprop(Has c.tc (rows arg1 ⟨k.val, hk⟩) fullShare (Y ⟨k.val, hk⟩) ∗ free10 c arg4 arg8 (r10 k.val)
        ∗ (uDone c arg1 arg4 arg8 Y ⟨k.val, hk⟩ -∗ uRow EC c arg1 arg4 arg8 Y (k.val + 1) (k.val + 10)))
      ⊢ iprop((uRow EC c arg1 arg4 arg8 Y (k.val + 1) (k.val + 1 + 10) -∗ Q v)
        -∗ wp frame (wpE (defs₀ (F := F)) 𝒱 c.tc bd) Set.univ
            (if h : k0_cond2 k = 1#1 then
              Prog.lift (.enqueueDma (arg1.slice (Rect.unit (s := S100000x128) (k0_off12 k) S1000x128.size (k0_off12_inb k h)) (fun _ => rfl))
                (.here ((arg4.slice (Rect.unit (s := S10x1000x128) (k0_off11 k) S1x1000x128.size (k0_off11_inb k h)) (fun _ => rfl)).squeeze S1000x128 squeezes_S1x1000x128_S1000x128))
                (.dma ((arg8.slice (Rect.unit (s := S10) (k0_off10 k) S1.size (k0_off10_inb k h))).squeeze S_ squeezes_S1_S_).sem) (View.wordExact_bits rfl) ((View.wordExact_bits rfl).reshape _ _) ⟨Or.inl rfl, trivial⟩)
                  >>= fun _ => pure v
            else pure v) Q) := by
  iintro ⟨Hu, Hf, Hk⟩ HQ
  by_cases h : k0_cond2 k = 1#1
  · have hk' : k.val + 10 < 100 := (cond2_iff k).1 h
    have hr : r10 (k.val + 10) = r10 k.val := Fin.ext (Nat.add_mod_right _ _)
    have e10 : k0_off10 k = cellOff (r10 (k.val + 10)) := by rw [k0_off10_eq, hr]
    have e11 : k0_off11 k = slotOff (r10 (k.val + 10)) := by rw [k0_off11_eq, hr]
    have e12 : k0_off12 k = rowOff (⟨k.val + 10, hk'⟩ : Fin 100) := by
      rw [k0_off12_eq]; unfold rowOff; rw [Nat.mul_add]
    rw [dif_pos h, ← hr]
    ihave Hrow := Hk $$ [Hu]
    · unfold uDone
      rw [if_neg (by simp only; omega)]
      isplitl [Hu]; · iexact Hu
      iempintro
    ihave ⟨Hh, Hrow⟩ := row_start _ _ _ (k.val + 1) (k.val + 10) (by omega) hk' $$ Hrow
    unfold uHome free10
    icases Hh with ⟨Hu, -⟩
    icases Hf with ⟨Hr, Hs⟩
    iapply (start_in 𝒱 c bd EC ⟨k.val + 10, hk'⟩ (r10 (k.val + 10)) e12 e10 e11) $$ [Hu Hr Hs]
    · isplitl [Hu]; · iexact Hu
      isplitl [Hr] <;> iassumption
    iintro Hfly
    rw [wp_pure]
    imodintro
    iapply HQ
    rw [Nat.add_right_comm]
    iapply Hrow
    unfold uFly
    iexact Hfly
  · have hk' : ¬ k.val + 10 < 100 := fun h' => h ((cond2_iff k).2 h')
    rw [dif_neg h, wp_pure]
    imodintro
    iapply HQ
    rw [Nat.add_right_comm]
    unfold uRow
    rw [← row_full _ _ _ (k.val + 1) (k.val + 10) (by omega)]
    iapply Hk
    unfold uDone
    rw [if_pos (by simp only; omega)]
    isplitl [Hu] <;> iassumption

/-- One trip takes the invariant to the next. -/
theorem trip (k : Fin k0_t1_loop.trips) (acc : FVec F S1x128 .f32 × FVec F S1x128 .f32) :
    inv EC c arg0 arg1 arg3 arg4 arg6 arg7 arg8 X Y k.val acc
      ⊢ wp frame (wpE (defs₀ (F := F)) 𝒱 c.tc bd) Set.univ
          (k0_t1_body arg0 harg0 arg1 harg1 arg2 harg2 arg3 harg3 arg4 harg4 arg5 harg5 arg6 harg6 arg7 arg8 arg9 k acc)
          (inv EC c arg0 arg1 arg3 arg4 arg6 arg7 arg8 X Y (k.val + 1)) := by
  obtain ⟨p, r⟩ := acc
  have hk : k.val < 100 := by have := k.isLt; have := trips1; omega
  have h7 : k0_off7 k = maxOff ⟨k.val, hk⟩ := by rw [k0_off7_eq]
  unfold inv k0_t1_body
  iintro ⟨%hacc, Hx, Hu, HO⟩
  ihave ⟨Hx, Hxk⟩ := row_finish _ _ _ k.val (k.val + 12) (by omega) hk $$ Hx
  ihave ⟨Hu, Huk⟩ := row_finish _ _ _ k.val (k.val + 10) (by omega) hk $$ Hu
  rw [wp_bind]
  iapply (trip_load EC c arg0 harg0 arg1 harg1 arg2 harg2 arg3 harg3 arg4 harg4 arg5 harg5 arg6 harg6 arg7 arg8 arg9 X Y k ⟨k.val, hk⟩ rfl p) $$ [Hx Hu HO]
  · isplitl [Hx]; · iexact Hx
    isplitl [Hu] <;> iassumption
  iintro ⟨Hs, Hx, Hy, Hm, Hu, Hf, HO⟩
  dsimp only
  iapply (peek_at 𝒱 c bd (max_inb ⟨k.val, hk⟩) h7) $$ Hm
  iintro %v Hm
  iapply (store_at 𝒱 c bd (max_inb ⟨k.val, hk⟩) h7) $$ Hm
  iintro Hm
  have hp : p = (state X Y k.val).1 := by rw [← hacc]
  have hr : r = (state X Y k.val).2 := by rw [← hacc]
  ihave Hrow := Hxk $$ [Hs Hx Hy Hm]
  · unfold xDone exps tops
    rw [hp]
    isplitl [Hs]; · iexact Hs
    isplitl [Hx]; · iexact Hx
    isplitl [Hy] <;> iassumption
  have hacc' : (k0_pay2 p (X ⟨k.val, hk⟩) (asSlot (Y ⟨k.val, hk⟩)),
      k0_pay9 p r (k0_pay2 p (X ⟨k.val, hk⟩) (asSlot (Y ⟨k.val, hk⟩))) (k0_pay3 p (X ⟨k.val, hk⟩) (asSlot (Y ⟨k.val, hk⟩))))
      = state X Y (k.val + 1) := by
    rw [hp, hr]; exact (state_succ X Y ⟨k.val, hk⟩).symm
  by_cases h : k0_cond1 k = 1#1
  · have hk' : k.val + 12 < 100 := (cond1_iff k).1 h
    have e8 : k0_off8 k = cellOff (⟨k.val + 12, hk'⟩ : Fin 100) := by rw [k0_off8_eq]
    have e9 : k0_off9 k = rowOff (⟨k.val + 12, hk'⟩ : Fin 100) := by
      rw [k0_off9_eq]; unfold rowOff; rw [Nat.mul_add]
    rw [dif_pos h]
    ihave ⟨Hh, Hrow⟩ := row_start _ _ _ (k.val + 1) (k.val + 12) (by omega) hk' $$ Hrow
    unfold xHome
    icases Hh with ⟨Hs, Hx, Hr, Hm⟩
    iapply (start_rows 𝒱 c bd EC ⟨k.val + 12, hk'⟩ e9 e8) $$ [Hs Hx Hr]
    · isplitl [Hx]; · iexact Hx
      isplitl [Hr] <;> iassumption
    iintro Hfly
    iapply (trip_end EC c arg1 arg4 arg8 Y k hk) $$ [Hu Hf Huk]
    · isplitl [Hu]; · iexact Hu
      isplitl [Hf] <;> iassumption
    iintro Hur
    isplitr
    · ipureintro; exact hacc'
    isplitl [Hrow Hfly Hm]
    · rw [Nat.add_right_comm]
      iapply Hrow
      unfold xFly
      isplitl [Hfly] <;> iassumption
    isplitl [Hur] <;> iassumption
  · have hk' : ¬ k.val + 12 < 100 := fun h' => h ((cond1_iff k).2 h')
    rw [dif_neg h]
    iapply (trip_end EC c arg1 arg4 arg8 Y k hk) $$ [Hu Hf Huk]
    · isplitl [Hu]; · iexact Hu
      isplitl [Hf] <;> iassumption
    iintro Hur
    isplitr
    · ipureintro; exact hacc'
    isplitl [Hrow]
    · rw [Nat.add_right_comm]
      unfold xRow
      rw [← row_full _ _ _ (k.val + 1) (k.val + 12) (by omega)]
      iexact Hrow
    isplitl [Hur] <;> iassumption

/-- The whole loop: with the first twelve and ten copies in flight, it leaves every block's exponentials and maxima, the
    inputs as they were, and yields the running pair over all the blocks. -/
theorem loop {β : Type} {kk : FVec F S1x128 .f32 × FVec F S1x128 .f32 → Prog (TpuEff nD τ sig (Elt F) Λ₀ .tc) β} {Q : β → sProp 𝕄} :
    iprop(xRow EC c arg0 arg3 arg6 arg7 X Y 0 12 ∗ uRow EC c arg1 arg4 arg8 Y 0 10 ∗ ∃ W, owes c.tc 0 W)
      ⊢ iprop((iprop(bigSep Finset.univ (xDone c arg0 arg3 arg6 arg7 X Y) ∗ bigSep Finset.univ (uDone c arg1 arg4 arg8 Y) ∗ ∃ W, owes c.tc 0 W)
            -∗ wp frame (wpE (defs₀ (F := F)) 𝒱 c.tc bd) Set.univ (kk (state X Y 100)) Q)
        -∗ wp frame (wpE (defs₀ (F := F)) 𝒱 c.tc bd) Set.univ
            (Scf.Loop.for k0_t1_loop k0_t1_ok (k0_pay6, k0_pay7)
              (k0_t1_body arg0 harg0 arg1 harg1 arg2 harg2 arg3 harg3 arg4 harg4 arg5 harg5 arg6 harg6 arg7 arg8 arg9) >>= kk) Q) := by
  iintro ⟨Hx, Hu, HO⟩ Hk
  iapply (Scf.wp_for_bind frame (wpE (defs₀ (F := F)) 𝒱 c.tc bd) Set.univ k0_t1_loop.lb k0_t1_loop.ub k0_t1_loop.st k0_t1_ok (k0_pay6, k0_pay7)
    (k0_t1_body arg0 harg0 arg1 harg1 arg2 harg2 arg3 harg3 arg4 harg4 arg5 harg5 arg6 harg6 arg7 arg8 arg9)
    (inv EC c arg0 arg1 arg3 arg4 arg6 arg7 arg8 X Y)
    (trip EC c arg0 harg0 arg1 harg1 arg2 harg2 arg3 harg3 arg4 harg4 arg5 harg5 arg6 harg6 arg7 arg8 arg9 X Y)) $$ [Hx Hu HO]
  · unfold inv
    isplitr
    · ipureintro; rfl
    isplitl [Hx]; · iexact Hx
    isplitl [Hu] <;> iassumption
  iintro %acc HI
  have ht : Scf.trips k0_t1_loop.lb k0_t1_loop.ub k0_t1_loop.st = 100 := trips1
  rw [ht]
  unfold inv xRow uRow
  rw [row_done _ _ _ 100 _ le_rfl, row_done _ _ _ 100 _ le_rfl]
  icases HI with ⟨%hacc, Hx, Hu, HO⟩
  rw [hacc]
  iapply Hk
  isplitl [Hx]; · iexact Hx
  isplitl [Hu] <;> iassumption

end Run

end Cert.KernelIdeal.First

end
-- ==== Proof.Last.lean ====
/- The kernel's second loop: every block's exponentials rescaled to the overall maximum and divided by the overall sum,
   through a ring of eight slots, to the output. -/
module

public import proofs.«01_k».proof.Proof.Places
public import proofs.«01_k».proof.Proof.Ring

@[expose] public section

noncomputable section

namespace Cert.KernelIdeal.Last

open Idealize.ShloMosaic Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Blocks Cert.Ring Cert.KernelIdeal.Places

variable {F : FTy → Type} [FloatOps F]

/-- What goes out for block `b`, from the overall pair `p`, the block's maxima and its exponentials. -/
def out (p : FVec F S1x128 .f32 × FVec F S1x128 .f32) (M : Fin 100 → S8x128.Idx → Elt F .f32) (E : Fin 100 → S1000x128.Idx → Elt F .f32)
    (b : Fin 100) : S1000x128.Idx → Elt F .f32 := ofSlot (k0_pay10 p.1 p.2 (M b) (E b))

variable {U : Type} [URA U]

local notation "𝕄" => MT nD τ sig Unit (Elt F) ℕ U ℕ

/-- The slot of the ring of eight that block `b` goes through. -/
abbrev r8 (b : ℕ) : Fin 8 := ⟨b % 8, Nat.mod_lt _ (by decide)⟩

section Held

variable (EC : UEmb Counters (MT nD τ sig Unit (Elt F) ℕ U ℕ)) (c : Dev nD)
  (m2 : Memref sig .tc .hbm S100000x128 .f32) (m3 : Memref sig .tc .vmem S100000x128 .f32)
  (m5 : Memref sig .tc .vmem S8x1000x128 .f32) (m6 : Memref sig .tc .vmem S800x128 .f32) (a9 : DmaSems sig S8)
  (E O : Fin 100 → S1000x128.Idx → Elt F .f32) (M : Fin 100 → S8x128.Idx → Elt F .f32)

/-- Slot `r` of the ring of eight, free. -/
def free8 (r : Fin 8) : sProp 𝕄 := iprop(Room c.tc (slot8 m5 r) ∗ semVal (c.tc, .dma (cell8 a9 r)) 0)

/-- Block `b` of the output before its copy starts; the first eight come with their slots. -/
def oHome (b : Fin 100) : sProp 𝕄 :=
  iprop(Room c.tc (rows m2 b) ∗ (if b.val < 8 then free8 c m5 a9 (r8 b.val) else emp))

/-- Its copy in flight. -/
def oFly (b : Fin 100) : sProp 𝕄 :=
  Transfers.Flight EC c.tc (.dma (cell8 a9 (r8 b.val))) () (rows m2 b).dmaCredit
    iprop(Has c.tc (rows m2 b) fullShare (O b)
      ∗ Has c.tc ((slot8 m5 (r8 b.val)).reshape S1000x128 squeezes_S1x1000x128_S1000x128.numel_eq) fullShare (O b))

/-- The block written; the last eight leave their slots free. -/
def oDone (b : Fin 100) : sProp 𝕄 :=
  iprop(Has c.tc (rows m2 b) fullShare (O b) ∗ (if 92 ≤ b.val then free8 c m5 a9 (r8 b.val) else emp))

abbrev oRow (i j : ℕ) : sProp 𝕄 := row (oDone c m2 m5 a9 O) (oFly EC c m2 m5 a9 O) (oHome c m2 m5 a9) i j

/-- Before trip `k`: the exponentials and maxima, the blocks before `k - 8` written, up to eight copies in flight. -/
def inv (k : ℕ) : sProp 𝕄 :=
  iprop(bigSep Finset.univ (fun b => Has c.tc (rows m3 b) fullShare (E b)) ∗ bigSep Finset.univ (fun b => Has c.tc (maxs m6 b) fullShare (M b))
    ∗ oRow EC c m2 m5 a9 O (k - 8) k ∗ ∃ W, owes c.tc 0 W)

end Held

theorem trips2 : k0_t2_loop.trips = 100 := by decide +kernel

theorem cond3_iff : ∀ k : Fin k0_t2_loop.trips, k0_cond3 k = 1#1 ↔ 8 ≤ k.val := by decide +kernel

theorem off14_eq : ∀ k : Fin k0_t2_loop.trips, k0_cond3 k = 1#1 → k0_off14 k = ![1000 * (k.val - 8), 0] := by decide +kernel

section Run

variable {𝒱 : Variants} {bd : Option 𝒱.V}
variable (EC : UEmb Counters (MT nD τ sig Unit (Elt F) ℕ U ℕ)) [EC.LandsIn (upEmb : UEmb _ (MT nD τ sig Unit (Elt F) ℕ U ℕ))] (c : Dev nD)
variable (arg0 : Memref sig .tc .hbm S100000x128 .f32) (harg0 : arg0.IsWhole) (arg1 : Memref sig .tc .hbm S100000x128 .f32) (harg1 : arg1.IsWhole)
  (arg2 : Memref sig .tc .hbm S100000x128 .f32) (harg2 : arg2.IsWhole) (arg3 : Memref sig .tc .vmem S100000x128 .f32) (harg3 : arg3.IsWhole)
  (arg4 : Memref sig .tc .vmem S10x1000x128 .f32) (harg4 : arg4.IsWhole) (arg5 : Memref sig .tc .vmem S8x1000x128 .f32) (harg5 : arg5.IsWhole)
  (arg6 : Memref sig .tc .vmem S800x128 .f32) (harg6 : arg6.IsWhole) (arg7 : DmaSems sig S100) (arg8 : DmaSems sig S10) (arg9 : DmaSems sig S8)
variable (p : FVec F S1x128 .f32 × FVec F S1x128 .f32) (E : Fin 100 → S1000x128.Idx → Elt F .f32) (M : Fin 100 → S8x128.Idx → Elt F .f32)

/-- A finished copy's slot is free again. -/
theorem landed (b : Fin 100) (O : Fin 100 → S1000x128.Idx → Elt F .f32) :
    iprop(Has c.tc ((slot8 arg5 (r8 b.val)).reshape S1000x128 squeezes_S1x1000x128_S1000x128.numel_eq) fullShare (O b)
        ∗ semVal (c.tc, .dma (cell8 arg9 (r8 b.val))) 0)
      ⊢ (free8 c arg5 arg9 (r8 b.val) : sProp 𝕄) := by
  unfold free8
  iintro ⟨Hb, Hs⟩
  isplitl [Hb]
  · iapply (has_room_reshape c.tc (slot8 arg5 (r8 b.val)) squeezes_S1x1000x128_S1000x128.numel_eq (O b)) $$ Hb
  iexact Hs

/-- One trip takes the invariant to the next. -/
theorem trip (k : Fin k0_t2_loop.trips) (acc : Unit) :
    inv EC c arg2 arg3 arg5 arg6 arg9 E (out p M E) M k.val
      ⊢ wp frame (wpE (defs₀ (F := F)) 𝒱 c.tc bd) Set.univ
          (k0_t2_body arg0 harg0 arg1 harg1 arg2 harg2 arg3 harg3 arg4 harg4 arg5 harg5 arg6 harg6 arg7 arg8 arg9 p.1 p.2 k acc)
          (fun _ => inv EC c arg2 arg3 arg5 arg6 arg9 E (out p M E) M (k.val + 1)) := by
  have hk : k.val < 100 := by have := k.isLt; have := trips2; omega
  have h13 : k0_off13 k = cellOff (r8 k.val) := by rw [k0_off13_eq]
  have h15 : k0_off15 k = slotOff (r8 k.val) := by rw [k0_off15_eq]
  have h16 : k0_off16 k = maxOff ⟨k.val, hk⟩ := by rw [k0_off16_eq]
  have h17 : k0_off17 k = rowOff (⟨k.val, hk⟩ : Fin 100) := by rw [k0_off17_eq]
  have h18 : k0_off18 k = slotOff (r8 k.val) := by rw [k0_off18_eq]
  have h19 : k0_off19 k = cellOff (r8 k.val) := by rw [k0_off19_eq]
  have h20 : k0_off20 k = rowOff (⟨k.val, hk⟩ : Fin 100) := by rw [k0_off20_eq]
  have h21 : k0_off21 k = slotOff (r8 k.val) := by rw [k0_off21_eq]
  unfold inv k0_t2_body
  iintro ⟨HE, HM, Ho, %W, HO⟩
  by_cases h : k0_cond3 k = 1#1
  case' pos =>
    have h8 : 8 ≤ k.val := (cond3_iff k).1 h
    have hk8 : k.val - 8 < 100 := by omega
    have hr : r8 k.val = r8 (k.val - 8) := Fin.ext (by simp only; omega)
    have h14 : k0_off14 k = rowOff (⟨k.val - 8, hk8⟩ : Fin 100) := by rw [off14_eq k h]
    rw [dif_pos h]
    ihave ⟨Hf, Ho⟩ := row_finish _ _ _ (k.val - 8) k.val (by omega) hk8 $$ Ho
    unfold oFly
    iapply (wait_out 𝒱 c bd EC ⟨k.val - 8, hk8⟩ (r8 (k.val - 8)) h14 (h13.trans (by rw [hr])) (h15.trans (by rw [hr]))) $$ [Hf HO]
    · isplitl [Hf] <;> iassumption
    iintro ⟨⟨Hout, Hb⟩, Hs, HO⟩
    ihave Hf := landed c arg5 arg9 ⟨k.val - 8, hk8⟩ (out p M E) $$ [Hb Hs]
    · isplitl [Hb] <;> iassumption
    ihave Ho := Ho $$ [Hout]
    · unfold oDone
      rw [if_neg (by simp only; omega)]
      isplitl [Hout]; · iexact Hout
      iempintro
    ihave ⟨Hh, Ho⟩ := row_start _ _ _ (k.val - 8 + 1) k.val (by omega) hk $$ Ho
    unfold oHome
    icases Hh with ⟨Hr, -⟩
    rw [show k.val - 8 + 1 = k.val + 1 - 8 by omega]
    simp only [← hr]
  case' neg =>
    have h8 : k.val < 8 := by have := (cond3_iff k).2; by_contra h'; exact h (this (by omega))
    rw [dif_neg h]
    ihave ⟨Hh, Ho⟩ := row_start _ _ _ (k.val - 8) k.val (by omega) hk $$ Ho
    unfold oHome oFly
    rw [if_pos h8]
    icases Hh with ⟨Hr, Hf⟩
    rw [show k.val - 8 = k.val + 1 - 8 by omega]
  all_goals
    ihave ⟨HMb, HM⟩ := borrow _ (⟨k.val, hk⟩ : Fin 100) $$ HM
    ihave ⟨HEb, HE⟩ := borrow _ (⟨k.val, hk⟩ : Fin 100) $$ HE
    iapply (load_at 𝒱 c bd (max_inb ⟨k.val, hk⟩) h16) $$ HMb
    iintro HMb
    iapply (load_at 𝒱 c bd (row_inb ⟨k.val, hk⟩) h17) $$ HEb
    iintro HEb
    unfold free8
    icases Hf with ⟨Hb, Hs⟩
    iapply (peek_at 𝒱 c bd (slot8_inb (r8 k.val)) h18) $$ Hb
    iintro %v Hb
    iapply (store_at 𝒱 c bd (slot8_inb (r8 k.val)) h18) $$ Hb
    iintro Hb
    iapply (start_out 𝒱 c bd EC ⟨k.val, hk⟩ (r8 k.val) h20 h19 h21) $$ [Hb Hr Hs]
    · isplitl [Hb]; · iexact Hb
      isplitl [Hr] <;> iassumption
    iintro Hfly
    rw [wp_pure]
    imodintro
    isplitl [HE HEb]; · iapply HE; iexact HEb
    isplitl [HM HMb]; · iapply HM; iexact HMb
    isplitl [Ho Hfly]
    · iapply Ho
      unfold out
      iexact Hfly
    iexists _; iexact HO

/-- The whole loop leaves all but the last eight copies landed. -/
theorem loop {β : Type} {kk : Unit → Prog (TpuEff nD τ sig (Elt F) Λ₀ .tc) β} {Q : β → sProp 𝕄} :
    inv EC c arg2 arg3 arg5 arg6 arg9 E (out p M E) M 0
      ⊢ iprop((inv EC c arg2 arg3 arg5 arg6 arg9 E (out p M E) M 100
            -∗ wp frame (wpE (defs₀ (F := F)) 𝒱 c.tc bd) Set.univ (kk ()) Q)
        -∗ wp frame (wpE (defs₀ (F := F)) 𝒱 c.tc bd) Set.univ
            (Scf.Loop.for k0_t2_loop k0_t2_ok ()
              (k0_t2_body arg0 harg0 arg1 harg1 arg2 harg2 arg3 harg3 arg4 harg4 arg5 harg5 arg6 harg6 arg7 arg8 arg9 p.1 p.2) >>= kk) Q) := by
  iintro H Hk
  iapply (Scf.wp_for_bind frame (wpE (defs₀ (F := F)) 𝒱 c.tc bd) Set.univ k0_t2_loop.lb k0_t2_loop.ub k0_t2_loop.st k0_t2_ok ()
    (k0_t2_body arg0 harg0 arg1 harg1 arg2 harg2 arg3 harg3 arg4 harg4 arg5 harg5 arg6 harg6 arg7 arg8 arg9 p.1 p.2)
    (fun k _ => inv EC c arg2 arg3 arg5 arg6 arg9 E (out p M E) M k)
    (trip EC c arg0 harg0 arg1 harg1 arg2 harg2 arg3 harg3 arg4 harg4 arg5 harg5 arg6 harg6 arg7 arg8 arg9 p E M)) $$ H
  iintro %acc HI
  have ht : Scf.trips k0_t2_loop.lb k0_t2_loop.ub k0_t2_loop.st = 100 := trips2
  rw [ht]
  iapply Hk
  iexact HI

end Run

end Cert.KernelIdeal.Last

end
-- ==== Proof.Body.lean ====
/- The whole kernel body: the first copies, the two loops, and the last waits. -/
module

public import proofs.«01_k».proof.Proof.First
public import proofs.«01_k».proof.Proof.Last

@[expose] public section

noncomputable section

namespace Cert.KernelIdeal.Body

open Idealize.ShloMosaic Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Blocks Cert.Ring Cert.KernelIdeal.Places Cert.KernelIdeal.First Cert.KernelIdeal.Last

variable {F : FTy → Type} [FloatOps F]
variable {U : Type} [URA U]

local notation "𝕄" => MT nD τ sig Unit (Elt F) ℕ U ℕ

/-- What the kernel leaves in block `b` of its output, from the blocks of its two inputs. -/
def result (X Y : Fin 100 → S1000x128.Idx → Elt F .f32) (b : Fin 100) : S1000x128.Idx → Elt F .f32 :=
  out (state X Y 100) (tops X Y) (exps X Y) b

section Slots

variable (c : Dev nD) (m1 m2 : Memref sig .tc .hbm S100000x128 .f32) (m4 : Memref sig .tc .vmem S10x1000x128 .f32)
  (m5 : Memref sig .tc .vmem S8x1000x128 .f32) (a8 : DmaSems sig S10) (a9 : DmaSems sig S8)
  (Y O : Fin 100 → S1000x128.Idx → Elt F .f32)

/-- The uniforms' blocks and their ten slots, as the pieces the ring starts from, -/
theorem u_home : bigSep Finset.univ (uHome c m1 m4 a8 Y)
    = (iprop(bigSep Finset.univ (fun b => Has c.tc (rows m1 b) fullShare (Y b)) ∗ bigSep Finset.univ (fun r => free10 c m4 a8 r)) : sProp 𝕄) := by
  unfold uHome
  rw [bigSep_sep', some_of (fun b : Fin 100 => b.val < 10) ⟨fun r : Fin 10 => ⟨r.val, by omega⟩, fun a b h => by simpa [Fin.ext_iff] using h⟩ (by decide +kernel)
    (fun b => free10 c m4 a8 (r10 b.val))]
  refine congrArg (fun Z => iprop(_ ∗ Z)) (bigSep_congr fun r _ => ?_)
  exact congrArg (free10 c m4 a8) (Fin.ext (Nat.mod_eq_of_lt r.isLt))

/-- and as those it ends in. -/
theorem u_done : bigSep Finset.univ (uDone c m1 m4 a8 Y)
    = (iprop(bigSep Finset.univ (fun b => Has c.tc (rows m1 b) fullShare (Y b)) ∗ bigSep Finset.univ (fun r => free10 c m4 a8 r)) : sProp 𝕄) := by
  unfold uDone
  rw [bigSep_sep', some_of (fun b : Fin 100 => 90 ≤ b.val) ⟨fun r : Fin 10 => ⟨90 + r.val, by omega⟩, fun a b h => by simpa [Fin.ext_iff] using h⟩ (by decide +kernel)
    (fun b => free10 c m4 a8 (r10 b.val))]
  refine congrArg (fun Z => iprop(_ ∗ Z)) (bigSep_congr fun r _ => ?_)
  exact congrArg (free10 c m4 a8) (Fin.ext (by show (90 + r.val) % 10 = r.val; omega))

theorem u_done' : bigSep Finset.univ (uDone c m1 m4 a8 Y)
    ⊢ (iprop(bigSep Finset.univ (fun b => Has c.tc (rows m1 b) fullShare (Y b)) ∗ bigSep Finset.univ (fun r => free10 c m4 a8 r)) : sProp 𝕄) := by
  rw [u_done]

/-- The logits' blocks, done with, by kind. -/
theorem x_done (m0 : Memref sig .tc .hbm S100000x128 .f32) (m3 : Memref sig .tc .vmem S100000x128 .f32)
    (m6 : Memref sig .tc .vmem S800x128 .f32) (a7 : DmaSems sig S100) (X : Fin 100 → S1000x128.Idx → Elt F .f32) :
    bigSep Finset.univ (xDone c m0 m3 m6 a7 X Y)
      ⊢ (iprop(bigSep Finset.univ (fun b : Fin 100 => semVal (c.tc, .dma (cell100 a7 b)) 0) ∗ bigSep Finset.univ (fun b => Has c.tc (rows m0 b) fullShare (X b))
        ∗ bigSep Finset.univ (fun b => Has c.tc (rows m3 b) fullShare (exps X Y b)) ∗ bigSep Finset.univ (fun b => Has c.tc (maxs m6 b) fullShare (tops X Y b))) : sProp 𝕄) := by
  unfold xDone
  rw [bigSep_sep', bigSep_sep', bigSep_sep']

/-- The output's blocks and their eight slots likewise: at the start, -/
theorem o_home : bigSep Finset.univ (oHome c m2 m5 a9)
    = (iprop(bigSep Finset.univ (fun b => Room c.tc (rows m2 b)) ∗ bigSep Finset.univ (fun r => free8 c m5 a9 r)) : sProp 𝕄) := by
  unfold oHome
  rw [bigSep_sep', some_of (fun b : Fin 100 => b.val < 8) ⟨fun r : Fin 8 => ⟨r.val, by omega⟩, fun a b h => by simpa [Fin.ext_iff] using h⟩ (by decide +kernel)
    (fun b => free8 c m5 a9 (r8 b.val))]
  refine congrArg (fun Z => iprop(_ ∗ Z)) (bigSep_congr fun r _ => ?_)
  exact congrArg (free8 c m5 a9) (Fin.ext (Nat.mod_eq_of_lt r.isLt))

/-- and at the end. -/
theorem o_done : bigSep Finset.univ (oDone c m2 m5 a9 O)
    = (iprop(bigSep Finset.univ (fun b => Has c.tc (rows m2 b) fullShare (O b)) ∗ bigSep Finset.univ (fun r => free8 c m5 a9 r)) : sProp 𝕄) := by
  unfold oDone
  rw [bigSep_sep', some_of (fun b : Fin 100 => 92 ≤ b.val) ⟨fun r : Fin 8 => ⟨92 + (r.val + 4) % 8, by omega⟩,
      fun a b h => by simp only [Fin.mk.injEq] at h; exact Fin.ext (by omega)⟩ (by decide +kernel) (fun b => free8 c m5 a9 (r8 b.val))]
  refine congrArg (fun Z => iprop(_ ∗ Z)) (bigSep_congr fun r _ => ?_)
  exact congrArg (free8 c m5 a9) (Fin.ext (by show (92 + (r.val + 4) % 8) % 8 = r.val; omega))

end Slots

section Run

variable {𝒱 : Variants} {bd : Option 𝒱.V}
variable (EC : UEmb Counters (MT nD τ sig Unit (Elt F) ℕ U ℕ)) [EC.LandsIn (upEmb : UEmb _ (MT nD τ sig Unit (Elt F) ℕ U ℕ))] (c : Dev nD)
variable (arg0 : Memref sig .tc .hbm S100000x128 .f32) (harg0 : arg0.IsWhole) (arg1 : Memref sig .tc .hbm S100000x128 .f32) (harg1 : arg1.IsWhole)
  (arg2 : Memref sig .tc .hbm S100000x128 .f32) (harg2 : arg2.IsWhole) (arg3 : Memref sig .tc .vmem S100000x128 .f32) (harg3 : arg3.IsWhole)
  (arg4 : Memref sig .tc .vmem S10x1000x128 .f32) (harg4 : arg4.IsWhole) (arg5 : Memref sig .tc .vmem S8x1000x128 .f32) (harg5 : arg5.IsWhole)
  (arg6 : Memref sig .tc .vmem S800x128 .f32) (harg6 : arg6.IsWhole) (arg7 : DmaSems sig S100) (arg8 : DmaSems sig S10) (arg9 : DmaSems sig S8)
variable (X Y O : Fin 100 → S1000x128.Idx → Elt F .f32)

/-- Starting the copy of the next block of logits. -/
theorem start_x {β : Type} (j : ℕ) (hj : j < 100) {o : Fin 2 → ℕ} {o₁ : Fin 1 → ℕ} (h : o = rowOff ⟨j, hj⟩) (h₁ : o₁ = cellOff (⟨j, hj⟩ : Fin 100))
    {inb : ∀ a, o a + S1000x128.size a ≤ S100000x128.size a} {inb₁ : ∀ a, o₁ a + S1.size a ≤ S100.size a}
    {hu hu'} {hsrc hdst hsem} {k : PUnit → Prog (TpuEff nD τ sig (Elt F) Λ₀ .tc) β} {Q : β → sProp 𝕄} :
    xRow EC c arg0 arg3 arg6 arg7 X Y 0 j
      ⊢ iprop((xRow EC c arg0 arg3 arg6 arg7 X Y 0 (j + 1) -∗ wp frame (wpE (defs₀ (F := F)) 𝒱 c.tc bd) Set.univ (k ⟨⟩) Q)
          -∗ wp frame (wpE (defs₀ (F := F)) 𝒱 c.tc bd) Set.univ
            (Prog.lift (.enqueueDma (arg0.slice (Rect.unit o S1000x128.size inb) hu) (.here (arg3.slice (Rect.unit o S1000x128.size inb) hu'))
              (.dma ((arg7.slice (Rect.unit o₁ S1.size inb₁)).squeeze S_ squeezes_S1_S_).sem) hsrc hdst hsem) >>= k) Q) := by
  iintro Hrow Hk
  ihave ⟨Hh, Hrow⟩ := row_start _ _ _ 0 j (Nat.zero_le _) hj $$ Hrow
  unfold xHome
  icases Hh with ⟨Hs, Hx, Hr, Hm⟩
  iapply (start_rows 𝒱 c bd EC ⟨j, hj⟩ h h₁) $$ [Hs Hx Hr]
  · isplitl [Hx]; · iexact Hx
    isplitl [Hr] <;> iassumption
  iintro Hfly
  iapply Hk
  iapply Hrow
  unfold xFly
  isplitl [Hfly] <;> iassumption

/-- Starting the copy of the next of the first ten blocks of uniforms. -/
theorem start_u {β : Type} (j : ℕ) (hj : j < 10) {o : Fin 2 → ℕ} {o₁ : Fin 1 → ℕ} {o₂ : Fin 3 → ℕ}
    (h : o = rowOff ⟨j, by omega⟩) (h₁ : o₁ = cellOff (r10 j)) (h₂ : o₂ = slotOff (r10 j))
    {inb : ∀ a, o a + S1000x128.size a ≤ S100000x128.size a} {inb₁ : ∀ a, o₁ a + S1.size a ≤ S10.size a}
    {inb₂ : ∀ a, o₂ a + S1x1000x128.size a ≤ S10x1000x128.size a}
    {hu hu'} {hsrc hdst hsem} {k : PUnit → Prog (TpuEff nD τ sig (Elt F) Λ₀ .tc) β} {Q : β → sProp 𝕄} :
    uRow EC c arg1 arg4 arg8 Y 0 j
      ⊢ iprop((uRow EC c arg1 arg4 arg8 Y 0 (j + 1) -∗ wp frame (wpE (defs₀ (F := F)) 𝒱 c.tc bd) Set.univ (k ⟨⟩) Q)
          -∗ wp frame (wpE (defs₀ (F := F)) 𝒱 c.tc bd) Set.univ
            (Prog.lift (.enqueueDma (arg1.slice (Rect.unit o S1000x128.size inb) hu)
              (.here ((arg4.slice (Rect.unit o₂ S1x1000x128.size inb₂) hu').squeeze S1000x128 squeezes_S1x1000x128_S1000x128))
              (.dma ((arg8.slice (Rect.unit o₁ S1.size inb₁)).squeeze S_ squeezes_S1_S_).sem) hsrc hdst hsem) >>= k) Q) := by
  iintro Hrow Hk
  ihave ⟨Hh, Hrow⟩ := row_start _ _ _ 0 j (Nat.zero_le _) (by omega) $$ Hrow
  unfold uHome free10
  rw [if_pos hj]
  icases Hh with ⟨Hu, Hr, Hs⟩
  iapply (start_in 𝒱 c bd EC ⟨j, by omega⟩ (r10 j) h h₁ h₂) $$ [Hs Hu Hr]
  · isplitl [Hu]; · iexact Hu
    isplitl [Hr] <;> iassumption
  iintro Hfly
  iapply Hk
  iapply Hrow
  unfold uFly
  iexact Hfly

/-- Waiting for the next of the last eight copies out. -/
theorem wait_o {β : Type} (j : ℕ) (hj : 92 ≤ j) (hj' : j < 100) {o : Fin 2 → ℕ} {o₁ : Fin 1 → ℕ} {o₂ : Fin 3 → ℕ}
    (h : o = rowOff ⟨j, hj'⟩) (h₁ : o₁ = cellOff (r8 j)) (h₂ : o₂ = slotOff (r8 j))
    {inb : ∀ a, o a + S1000x128.size a ≤ S100000x128.size a} {inb₁ : ∀ a, o₁ a + S1.size a ≤ S8.size a}
    {inb₂ : ∀ a, o₂ a + S1x1000x128.size a ≤ S8x1000x128.size a}
    {hu hu'} {hsrc hdst} {k : PUnit → Prog (TpuEff nD τ sig (Elt F) Λ₀ .tc) β} {Q : β → sProp 𝕄} :
    iprop(oRow EC c arg2 arg5 arg9 O j 100 ∗ ∃ W, owes c.tc 0 W)
      ⊢ iprop((iprop(oRow EC c arg2 arg5 arg9 O (j + 1) 100 ∗ ∃ W, owes c.tc 0 W) -∗ wp frame (wpE (defs₀ (F := F)) 𝒱 c.tc bd) Set.univ (k ⟨⟩) Q)
          -∗ wp frame (wpE (defs₀ (F := F)) 𝒱 c.tc bd) Set.univ
            (Prog.lift (.waitDma2 ((arg9.slice (Rect.unit o₁ S1.size inb₁)).squeeze S_ squeezes_S1_S_).sem
              ((arg5.slice (Rect.unit o₂ S1x1000x128.size inb₂) hu').squeeze S1000x128 squeezes_S1x1000x128_S1000x128)
              (arg2.slice (Rect.unit o S1000x128.size inb) hu) hsrc hdst) >>= k) Q) := by
  iintro ⟨Hrow, %W, HO⟩ Hk
  ihave ⟨Hf, Hrow⟩ := row_finish _ _ _ j 100 hj' hj' $$ Hrow
  unfold oFly
  iapply (wait_out 𝒱 c bd EC ⟨j, hj'⟩ (r8 j) h h₁ h₂) $$ [Hf HO]
  · isplitl [Hf] <;> iassumption
  iintro ⟨⟨Hout, Hb⟩, Hs, HO⟩
  iapply Hk
  isplitr [HO]
  · iapply Hrow
    unfold oDone
    rw [if_pos hj]
    isplitl [Hout]; · iexact Hout
    iapply (landed c arg5 arg9 ⟨j, hj'⟩ O)
    isplitl [Hb] <;> iassumption
  iexists _; iexact HO

/-- The first copies of the logits. -/
theorem part2 {Q : PUnit → sProp 𝕄} :
    xRow EC c arg0 arg3 arg6 arg7 X Y 0 0 ⊢ iprop((xRow EC c arg0 arg3 arg6 arg7 X Y 0 6 -∗ Q ⟨⟩)
      -∗ wp frame (wpE (defs₀ (F := F)) 𝒱 c.tc bd) Set.univ
        (k0_part2 arg0 harg0 arg1 harg1 arg2 harg2 arg3 harg3 arg4 harg4 arg5 harg5 arg6 harg6 arg7 arg8 arg9) Q) := by
  rw [k0_part2_eq_skeleton]
  unfold k0_part2_skel
  iintro H Hk
  iapply (start_x EC c arg0 arg3 arg6 arg7 X Y 0 (by decide) rfl rfl) $$ H
  iintro H
  iapply (start_x EC c arg0 arg3 arg6 arg7 X Y 1 (by decide) rfl rfl) $$ H
  iintro H
  iapply (start_x EC c arg0 arg3 arg6 arg7 X Y 2 (by decide) rfl rfl) $$ H
  iintro H
  iapply (start_x EC c arg0 arg3 arg6 arg7 X Y 3 (by decide) rfl rfl) $$ H
  iintro H
  iapply (start_x EC c arg0 arg3 arg6 arg7 X Y 4 (by decide) rfl rfl) $$ H
  iintro H
  iapply (start_x EC c arg0 arg3 arg6 arg7 X Y 5 (by decide) rfl rfl) $$ H
  iintro H
  rw [wp_pure]
  imodintro
  iapply Hk
  iexact H

theorem part3 {Q : PUnit → sProp 𝕄} :
    xRow EC c arg0 arg3 arg6 arg7 X Y 0 6 ⊢ iprop((xRow EC c arg0 arg3 arg6 arg7 X Y 0 12 -∗ Q ⟨⟩)
      -∗ wp frame (wpE (defs₀ (F := F)) 𝒱 c.tc bd) Set.univ
        (k0_part3 arg0 harg0 arg1 harg1 arg2 harg2 arg3 harg3 arg4 harg4 arg5 harg5 arg6 harg6 arg7 arg8 arg9) Q) := by
  rw [k0_part3_eq_skeleton]
  unfold k0_part3_skel
  iintro H Hk
  iapply (start_x EC c arg0 arg3 arg6 arg7 X Y 6 (by decide) rfl rfl) $$ H
  iintro H
  iapply (start_x EC c arg0 arg3 arg6 arg7 X Y 7 (by decide) rfl rfl) $$ H
  iintro H
  iapply (start_x EC c arg0 arg3 arg6 arg7 X Y 8 (by decide) rfl rfl) $$ H
  iintro H
  iapply (start_x EC c arg0 arg3 arg6 arg7 X Y 9 (by decide) rfl rfl) $$ H
  iintro H
  iapply (start_x EC c arg0 arg3 arg6 arg7 X Y 10 (by decide) rfl rfl) $$ H
  iintro H
  iapply (start_x EC c arg0 arg3 arg6 arg7 X Y 11 (by decide) rfl rfl) $$ H
  iintro H
  rw [wp_pure]
  imodintro
  iapply Hk
  iexact H

/-- The first copies of the uniforms. -/
theorem part4 {Q : PUnit → sProp 𝕄} :
    uRow EC c arg1 arg4 arg8 Y 0 0 ⊢ iprop((uRow EC c arg1 arg4 arg8 Y 0 5 -∗ Q ⟨⟩)
      -∗ wp frame (wpE (defs₀ (F := F)) 𝒱 c.tc bd) Set.univ
        (k0_part4 arg0 harg0 arg1 harg1 arg2 harg2 arg3 harg3 arg4 harg4 arg5 harg5 arg6 harg6 arg7 arg8 arg9) Q) := by
  rw [k0_part4_eq_skeleton]
  unfold k0_part4_skel
  iintro H Hk
  iapply (start_u EC c arg1 arg4 arg8 Y 0 (by decide) rfl rfl rfl) $$ H
  iintro H
  iapply (start_u EC c arg1 arg4 arg8 Y 1 (by decide) rfl rfl rfl) $$ H
  iintro H
  iapply (start_u EC c arg1 arg4 arg8 Y 2 (by decide) rfl rfl rfl) $$ H
  iintro H
  iapply (start_u EC c arg1 arg4 arg8 Y 3 (by decide) rfl rfl rfl) $$ H
  iintro H
  iapply (start_u EC c arg1 arg4 arg8 Y 4 (by decide) rfl rfl rfl) $$ H
  iintro H
  rw [wp_pure]
  imodintro
  iapply Hk
  iexact H

theorem part5 {Q : PUnit → sProp 𝕄} :
    uRow EC c arg1 arg4 arg8 Y 0 5 ⊢ iprop((uRow EC c arg1 arg4 arg8 Y 0 10 -∗ Q ⟨⟩)
      -∗ wp frame (wpE (defs₀ (F := F)) 𝒱 c.tc bd) Set.univ
        (k0_part5 arg0 harg0 arg1 harg1 arg2 harg2 arg3 harg3 arg4 harg4 arg5 harg5 arg6 harg6 arg7 arg8 arg9) Q) := by
  rw [k0_part5_eq_skeleton]
  unfold k0_part5_skel
  iintro H Hk
  iapply (start_u EC c arg1 arg4 arg8 Y 5 (by decide) rfl rfl rfl) $$ H
  iintro H
  iapply (start_u EC c arg1 arg4 arg8 Y 6 (by decide) rfl rfl rfl) $$ H
  iintro H
  iapply (start_u EC c arg1 arg4 arg8 Y 7 (by decide) rfl rfl rfl) $$ H
  iintro H
  iapply (start_u EC c arg1 arg4 arg8 Y 8 (by decide) rfl rfl rfl) $$ H
  iintro H
  iapply (start_u EC c arg1 arg4 arg8 Y 9 (by decide) rfl rfl rfl) $$ H
  iintro H
  rw [wp_pure]
  imodintro
  iapply Hk
  iexact H

/-- What the body hands back besides the output's ring: the inputs as they were, and every scratch buffer and cell free. -/
def rest : sProp 𝕄 :=
  iprop(bigSep Finset.univ (fun b : Fin 100 => semVal (c.tc, .dma (cell100 arg7 b)) 0) ∗ bigSep Finset.univ (fun b => Has c.tc (rows arg0 b) fullShare (X b))
    ∗ bigSep Finset.univ (fun b => Room c.tc (rows arg3 b)) ∗ bigSep Finset.univ (fun b => Room c.tc (maxs arg6 b))
    ∗ bigSep Finset.univ (fun b => Has c.tc (rows arg1 b) fullShare (Y b)) ∗ bigSep Finset.univ (fun r => free10 c arg4 arg8 r))

/-- The two loops and the first three of the last waits. -/
theorem part6 {Q : PUnit → sProp 𝕄} :
    iprop(xRow EC c arg0 arg3 arg6 arg7 X Y 0 12 ∗ uRow EC c arg1 arg4 arg8 Y 0 10 ∗ oRow EC c arg2 arg5 arg9 (result X Y) 0 0 ∗ ∃ W, owes c.tc 0 W)
      ⊢ iprop((iprop(rest c arg0 arg1 arg3 arg4 arg6 arg7 arg8 X Y ∗ oRow EC c arg2 arg5 arg9 (result X Y) 95 100 ∗ ∃ W, owes c.tc 0 W) -∗ Q ⟨⟩)
      -∗ wp frame (wpE (defs₀ (F := F)) 𝒱 c.tc bd) Set.univ
        (k0_part6 arg0 harg0 arg1 harg1 arg2 harg2 arg3 harg3 arg4 harg4 arg5 harg5 arg6 harg6 arg7 arg8 arg9) Q) := by
  have eHE : (bigSep Finset.univ (fun b => Has c.tc (rows arg3 b) fullShare (exps X Y b)) : sProp 𝕄) ⊢ bigSep Finset.univ (fun b => Room c.tc (rows arg3 b)) :=
    bigSep_mono fun b _ => has_room _ _ _
  have eHM : (bigSep Finset.univ (fun b => Has c.tc (maxs arg6 b) fullShare (tops X Y b)) : sProp 𝕄) ⊢ bigSep Finset.univ (fun b => Room c.tc (maxs arg6 b)) :=
    bigSep_mono fun b _ => has_room _ _ _
  rw [k0_part6_eq_skeleton]
  unfold k0_part6_skel
  iintro ⟨Hx, Hu, Ho, HO⟩ Hk
  iapply (First.loop EC c arg0 harg0 arg1 harg1 arg2 harg2 arg3 harg3 arg4 harg4 arg5 harg5 arg6 harg6 arg7 arg8 arg9 X Y) $$ [Hx Hu HO]
  · isplitl [Hx]; · iexact Hx
    isplitl [Hu] <;> iassumption
  iintro ⟨Hx, Hu, HO⟩
  ihave ⟨Hs, Hx, HE, HM⟩ := x_done c Y arg0 arg3 arg6 arg7 X $$ Hx
  ihave ⟨Hu, Hf⟩ := u_done' c arg1 arg4 arg8 Y $$ Hu
  have hr : result X Y = out (state X Y 100) (tops X Y) (exps X Y) := rfl
  rw [hr]
  generalize state X Y 100 = p
  obtain ⟨p, q⟩ := p
  dsimp only
  iapply (Last.loop EC c arg0 harg0 arg1 harg1 arg2 harg2 arg3 harg3 arg4 harg4 arg5 harg5 arg6 harg6 arg7 arg8 arg9 (p, q) (exps X Y) (tops X Y)) $$ [Ho HE HM HO]
  · unfold Last.inv
    isplitl [HE]; · iexact HE
    isplitl [HM]; · iexact HM
    isplitl [Ho]; · iexact Ho
    iexact HO
  unfold Last.inv
  iintro ⟨HE, HM, Ho, HO⟩
  ihave H : iprop(oRow EC c arg2 arg5 arg9 (out (p, q) (tops X Y) (exps X Y)) 92 100 ∗ ∃ W, owes c.tc 0 W) $$ [Ho HO]
  · isplitl [Ho] <;> iassumption
  iapply (wait_o EC c arg2 arg5 arg9 (out (p, q) (tops X Y) (exps X Y)) 92 (by decide) (by decide) rfl rfl rfl) $$ H
  iintro H
  iapply (wait_o EC c arg2 arg5 arg9 (out (p, q) (tops X Y) (exps X Y)) 93 (by decide) (by decide) rfl rfl rfl) $$ H
  iintro H
  iapply (wait_o EC c arg2 arg5 arg9 (out (p, q) (tops X Y) (exps X Y)) 94 (by decide) (by decide) rfl rfl rfl) $$ H
  iintro H
  rw [wp_pure]
  imodintro
  iapply Hk
  unfold rest
  isplitr [H]
  · isplitl [Hs]; · iexact Hs
    isplitl [Hx]; · iexact Hx
    isplitl [HE]; · iapply eHE $$ HE
    isplitl [HM]; · iapply eHM $$ HM
    isplitl [Hu] <;> iassumption
  iexact H

include EC in
/-- The whole body: from the blocks of the two inputs, room for the output and the scratch buffers, and every cell at
    zero, it leaves the result in the output and everything else as it was. -/
theorem body {Q : PUnit → sProp 𝕄} :
    iprop(rest c arg0 arg1 arg3 arg4 arg6 arg7 arg8 X Y
        ∗ bigSep Finset.univ (fun b => Room c.tc (rows arg2 b)) ∗ bigSep Finset.univ (fun r => free8 c arg5 arg9 r) ∗ ∃ W, owes c.tc 0 W)
      ⊢ iprop((iprop(rest c arg0 arg1 arg3 arg4 arg6 arg7 arg8 X Y
            ∗ bigSep Finset.univ (fun b => Has c.tc (rows arg2 b) fullShare (result X Y b)) ∗ bigSep Finset.univ (fun r => free8 c arg5 arg9 r)
            ∗ ∃ W, owes c.tc 0 W) -∗ Q ⟨⟩)
      -∗ wp frame (wpE (defs₀ (F := F)) 𝒱 c.tc bd) Set.univ
        (cc0__gs_kernel arg0 harg0 arg1 harg1 arg2 harg2 arg3 harg3 arg4 harg4 arg5 harg5 arg6 harg6 arg7 arg8 arg9) Q) := by
  rw [cc0__gs_kernel_eq_skeleton]
  unfold cc0__gs_kernel_skel
  rw [wp_bind, k0_part7_eq_skeleton]
  unfold k0_part7_skel
  iintro ⟨Hrest, Ho, Hp, HO⟩ Hk
  unfold rest
  icases Hrest with ⟨Hs, Hx, Hy, Hm, Hu, Hf⟩
  ihave Hx : xRow EC c arg0 arg3 arg6 arg7 X Y 0 0 $$ [Hs Hx Hy Hm]
  · unfold xRow
    rw [row_home]
    unfold xHome
    rw [bigSep_sep', bigSep_sep', bigSep_sep']
    isplitl [Hs]; · iexact Hs
    isplitl [Hx]; · iexact Hx
    isplitl [Hy] <;> iassumption
  ihave Hu : uRow EC c arg1 arg4 arg8 Y 0 0 $$ [Hu Hf]
  · unfold uRow
    rw [row_home, u_home]
    isplitl [Hu] <;> iassumption
  ihave Ho : oRow EC c arg2 arg5 arg9 (result X Y) 0 0 $$ [Ho Hp]
  · unfold oRow
    rw [row_home, o_home]
    isplitl [Ho] <;> iassumption
  rw [wp_bind]
  iapply (part2 EC c arg0 harg0 arg1 harg1 arg2 harg2 arg3 harg3 arg4 harg4 arg5 harg5 arg6 harg6 arg7 arg8 arg9 X Y) $$ Hx
  iintro Hx
  rw [wp_bind]
  iapply (part3 EC c arg0 harg0 arg1 harg1 arg2 harg2 arg3 harg3 arg4 harg4 arg5 harg5 arg6 harg6 arg7 arg8 arg9 X Y) $$ Hx
  iintro Hx
  rw [wp_bind]
  iapply (part4 EC c arg0 harg0 arg1 harg1 arg2 harg2 arg3 harg3 arg4 harg4 arg5 harg5 arg6 harg6 arg7 arg8 arg9 Y) $$ Hu
  iintro Hu
  rw [wp_bind]
  iapply (part5 EC c arg0 harg0 arg1 harg1 arg2 harg2 arg3 harg3 arg4 harg4 arg5 harg5 arg6 harg6 arg7 arg8 arg9 Y) $$ Hu
  iintro Hu
  rw [wp_bind]
  iapply (part6 EC c arg0 harg0 arg1 harg1 arg2 harg2 arg3 harg3 arg4 harg4 arg5 harg5 arg6 harg6 arg7 arg8 arg9 X Y) $$ [Hx Hu Ho HO]
  · isplitl [Hx]; · iexact Hx
    isplitl [Hu]; · iexact Hu
    isplitl [Ho] <;> iassumption
  iintro ⟨Hrest, H⟩
  iapply (wait_o EC c arg2 arg5 arg9 (result X Y) 95 (by decide) (by decide) rfl rfl rfl) $$ H
  iintro H
  iapply (wait_o EC c arg2 arg5 arg9 (result X Y) 96 (by decide) (by decide) rfl rfl rfl) $$ H
  iintro H
  iapply (wait_o EC c arg2 arg5 arg9 (result X Y) 97 (by decide) (by decide) rfl rfl rfl) $$ H
  iintro H
  iapply (wait_o EC c arg2 arg5 arg9 (result X Y) 98 (by decide) (by decide) rfl rfl rfl) $$ H
  iintro H
  iapply (wait_o EC c arg2 arg5 arg9 (result X Y) 99 (by decide) (by decide) rfl rfl rfl) $$ H
  iintro H
  rw [wp_pure]
  imodintro
  rw [wp_pure]
  imodintro
  iapply Hk
  unfold rest
  isplitl [Hrest]; · iexact Hrest
  unfold oRow
  rw [row_done _ _ _ 100 100 le_rfl, o_done]
  icases H with ⟨⟨Ho, Hp⟩, HO⟩
  isplitl [Ho]; · iexact Ho
  isplitl [Hp] <;> iassumption

end Run

end Cert.KernelIdeal.Body

end
-- ==== Proof.Run.lean ====
/- The launch: @main run from any memory, with what its output holds. -/
module

public import proofs.«01_k».proof.Proof.Whole
public import proofs.«01_k».proof.Proof.Body
public import proofs.«01_k».proof.Proof.Gen.KernelIdeal.Frame
public import Idealize.ShloMosaic.Lib.Pipeline.FrameSuffixV

@[expose] public section

noncomputable section

namespace Cert.KernelIdeal.Run

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)
open Cert.KernelIdeal Cert.KernelIdeal.Gen Cert.Blocks Cert.Ring Cert.KernelIdeal.Places Cert.KernelIdeal.First Cert.KernelIdeal.Last
open Cert.KernelIdeal.Body

variable {F : FTy → Type} [FloatOps F]

local notation "𝕄" => MT nD τ sig Unit (Elt F) ℕ (Pipeline.UD sig nD τ) ℕ

/-! ### The blocks of the buffers are disjoint and cover them -/

theorem rows_disjoint (i j : Fin 100) (h : i ≠ j) : Disjoint (rowRect i).set (rowRect j).set :=
  Ring.lead_disjoint (s := S100000x128) (0 : Fin 2) 1000 (fun b => rowOff b) S1000x128.size row_inb (fun _ => rfl) rfl i j h
theorem rows_cover : Finset.univ.biUnion (fun b => (rowRect b).set) = Finset.univ :=
  Ring.lead_cover (s := S100000x128) (0 : Fin 2) 1000 (fun b => rowOff b) S1000x128.size row_inb (fun _ => rfl)
    (by decide +kernel) rfl (by decide +kernel) rfl
theorem maxs_disjoint (i j : Fin 100) (h : i ≠ j) : Disjoint (maxRect i).set (maxRect j).set :=
  Ring.lead_disjoint (s := S800x128) (0 : Fin 2) 8 (fun b => maxOff b) S8x128.size max_inb (fun _ => rfl) rfl i j h
theorem maxs_cover : Finset.univ.biUnion (fun b => (maxRect b).set) = Finset.univ :=
  Ring.lead_cover (s := S800x128) (0 : Fin 2) 8 (fun b => maxOff b) S8x128.size max_inb (fun _ => rfl)
    (by decide +kernel) rfl (by decide +kernel) rfl
theorem slot10_disjoint (i j : Fin 10) (h : i ≠ j) : Disjoint (slot10Rect i).set (slot10Rect j).set :=
  Ring.lead_disjoint (s := S10x1000x128) (0 : Fin 3) 1 (fun b => slotOff b) S1x1000x128.size slot10_inb (fun b => (Nat.one_mul b.val).symm) rfl i j h
theorem slot10_cover : Finset.univ.biUnion (fun b => (slot10Rect b).set) = Finset.univ :=
  Ring.lead_cover (s := S10x1000x128) (0 : Fin 3) 1 (fun b => slotOff b) S1x1000x128.size slot10_inb (fun b => (Nat.one_mul b.val).symm)
    (by decide +kernel) rfl (by decide +kernel) rfl
theorem slot8_disjoint (i j : Fin 8) (h : i ≠ j) : Disjoint (slot8Rect i).set (slot8Rect j).set :=
  Ring.lead_disjoint (s := S8x1000x128) (0 : Fin 3) 1 (fun b => slotOff b) S1x1000x128.size slot8_inb (fun b => (Nat.one_mul b.val).symm) rfl i j h
theorem slot8_cover : Finset.univ.biUnion (fun b => (slot8Rect b).set) = Finset.univ :=
  Ring.lead_cover (s := S8x1000x128) (0 : Fin 3) 1 (fun b => slotOff b) S1x1000x128.size slot8_inb (fun b => (Nat.one_mul b.val).symm)
    (by decide +kernel) rfl (by decide +kernel) rfl

/-! ### The array made of blocks -/

theorem mod_lt (i : S100000x128.Idx) : (i 0).val / 1000 < 100 := by
  have h : (i 0).val < 100000 := (i 0).isLt
  omega

/-- The block an element lies in, and its place there. -/
def blockOf (i : S100000x128.Idx) : Fin 100 := ⟨(i 0).val / 1000, mod_lt i⟩
def placeOf (i : S100000x128.Idx) : S1000x128.Idx := fun a =>
  ⟨(![(i 0).val % 1000, (i 1).val] : Fin 2 → ℕ) a, by
    revert a
    exact Fin.forall_fin_two.mpr ⟨Nat.mod_lt _ (by decide), (i 1).isLt⟩⟩

/-- The array whose block `b` is `R b`. -/
def glue {T : Type} (R : Fin 100 → S1000x128.Idx → T) : S100000x128.Idx → T := fun i => R (blockOf i) (placeOf i)
/-- Block `b` of an array. -/
def cut {T : Type} (f : S100000x128.Idx → T) (b : Fin 100) : S1000x128.Idx → T := fun j => f ((rowRect b).emb j)

theorem emb_zero (b : Fin 100) (j : S1000x128.Idx) : ((rowRect b).emb j 0).val = 1000 * b.val + (j 0).val := by
  rw [Rect.emb_apply]
  show 1000 * b.val + 1 * (j 0).val = _
  omega
theorem emb_one (b : Fin 100) (j : S1000x128.Idx) : ((rowRect b).emb j 1).val = (j 1).val := by
  rw [Rect.emb_apply]
  show 0 + 1 * (j 1).val = _
  omega

theorem blockOf_emb (b : Fin 100) (j : S1000x128.Idx) : blockOf ((rowRect b).emb j) = b := by
  have h : (j 0).val < 1000 := (j 0).isLt
  refine Fin.ext ?_
  show ((rowRect b).emb j 0).val / 1000 = b.val
  rw [emb_zero]; omega
theorem placeOf_emb (b : Fin 100) (j : S1000x128.Idx) : placeOf ((rowRect b).emb j) = j := by
  have h : (j 0).val < 1000 := (j 0).isLt
  funext a
  revert a
  refine Fin.forall_fin_two.mpr ⟨Fin.ext ?_, Fin.ext ?_⟩
  · show ((rowRect b).emb j 0).val % 1000 = _
    rw [emb_zero]; omega
  · show ((rowRect b).emb j 1).val = _
    rw [emb_one]

theorem cut_glue {T : Type} (R : Fin 100 → S1000x128.Idx → T) (b : Fin 100) : cut (glue R) b = R b := by
  funext j
  unfold cut glue
  rw [blockOf_emb, placeOf_emb]

/-! ### The kernel's own cells -/

abbrev Cells : Type := Fin 100 ⊕ Fin 10 ⊕ Fin 8
abbrev cells : Cells → SemLoc sig :=
  Sum.elim (fun r => .dma (cell100 cc0_scratch4 r)) (Sum.elim (fun r => .dma (cell10 cc0_scratch5 r)) (fun r => .dma (cell8 cc0_scratch6 r)))

theorem cells_facts : Pipeline.OwnSemFacts cfg0.spec cells := by decide +kernel

theorem cells_split (c : Dev nD) :
    (Pipeline.ownSems0 (Ix := Unit) (Name := ℕ) (U := Pipeline.UD sig nD τ) (Lvl := ℕ) (Val := Elt F) (τ := τ) cells c : sProp 𝕄)
      = iprop(bigSep Finset.univ (fun r : Fin 100 => semVal (c.tc, .dma (cell100 cc0_scratch4 r)) 0)
          ∗ bigSep Finset.univ (fun r : Fin 10 => semVal (c.tc, .dma (cell10 cc0_scratch5 r)) 0)
          ∗ bigSep Finset.univ (fun r : Fin 8 => semVal (c.tc, .dma (cell8 cc0_scratch6 r)) 0)) := by
  unfold Pipeline.ownSems0
  rw [bigSep_univ_sum, bigSep_univ_sum]
  rfl

variable (m : (ℓ : Loc nD τ sig) → Buf (Elt F) ℓ)

/-- The blocks of the two inputs as the kernel finds them. -/
abbrev inX (c : Dev nD) : Fin 100 → S1000x128.Idx → Elt F .f32 := cut (V m c main_v0)
abbrev inY (c : Dev nD) : Fin 100 → S1000x128.Idx → Elt F .f32 := cut (V m c main_v1)

/-- What the kernel leaves in its output. -/
def output (c : Dev nD) : S100000x128.Idx → Elt F .f32 := glue (result (inX m c) (inY m c))

/-- What the buffers hold when the kernel returns. -/
def after (c : Dev nD) : (b : Ref sig .tc) → Buf (Elt F) ((c : Thread nD τ).loc b) := Function.update (V m c) main_v2 (output m c)

def reads : Finset (Ref sig .tc) := {main_v0, main_v1}
def writes : Finset (Ref sig .tc) := {main_v2}

abbrev held (G : (c : Dev nD) → (b : Ref sig .tc) → Buf (Elt F) ((c : Thread nD τ).loc b)) (c : Dev nD) : sProp 𝕄 :=
  Pipeline.ΦDRV cells cfg0.spec reads writes (V m) G c

theorem held_eq (G : (c : Dev nD) → (b : Ref sig .tc) → Buf (Elt F) ((c : Thread nD τ).loc b)) (c : Dev nD) :
    held m G c = iprop(((∃ f, c.tc.loc cc0_scratch0 ↦{fullShare} f) ∗ (∃ f, c.tc.loc cc0_scratch1 ↦{fullShare} f)
        ∗ (∃ f, c.tc.loc cc0_scratch2 ↦{fullShare} f) ∗ ∃ f, c.tc.loc cc0_scratch3 ↦{fullShare} f)
      ∗ (bigSep Finset.univ (fun r : Fin 100 => semVal (c.tc, .dma (cell100 cc0_scratch4 r)) 0)
          ∗ bigSep Finset.univ (fun r : Fin 10 => semVal (c.tc, .dma (cell10 cc0_scratch5 r)) 0)
          ∗ bigSep Finset.univ (fun r : Fin 8 => semVal (c.tc, .dma (cell8 cc0_scratch6 r)) 0))
      ∗ ((c.tc.loc main_v0 ↦{fullShare} V m c main_v0) ∗ c.tc.loc main_v1 ↦{fullShare} V m c main_v1)
      ∗ c.tc.loc main_v2 ↦{fullShare} G c main_v2) := by
  unfold held Pipeline.ΦDRV
  rw [scopedRest0_eq, cells_split, reads, writes, bigSep_eq_bigSepL_of_eq [main_v0, main_v1] (by decide) (by decide),
    bigSep_eq_bigSepL_of_eq [main_v2] (by decide) (by decide)]
  rfl

abbrev restOf (c : Dev nD) (X Y : Fin 100 → S1000x128.Idx → Elt F .f32) : sProp 𝕄 :=
  rest c (Memref.whole main_v0) (Memref.whole main_v1) (Memref.whole cc0_scratch0) (Memref.whole cc0_scratch1) (Memref.whole cc0_scratch3)
    cc0_scratch4 cc0_scratch5 X Y

theorem slots10 (c : Dev nD) : (iprop((∃ f, c.tc.loc cc0_scratch1 ↦{fullShare} f)
      ∗ bigSep Finset.univ (fun r : Fin 10 => semVal (c.tc, .dma (cell10 cc0_scratch5 r)) 0)) : sProp 𝕄)
    ⊢ bigSep Finset.univ (fun r => free10 c (Memref.whole cc0_scratch1) cc0_scratch5 r) := by
  unfold free10
  rw [bigSep_sep']
  iintro ⟨H, Hs⟩
  isplitl [H]
  · have h : (iprop(∃ f, c.tc.loc cc0_scratch1 ↦{fullShare} f) : sProp 𝕄) ⊢ bigSep Finset.univ fun r => Room c.tc (slot10 (Memref.whole cc0_scratch1) r) :=
      Whole.split_room c.tc cc0_scratch1 slot10Rect slot10_disjoint slot10_cover
    iapply h $$ H
  · iexact Hs

theorem unslots10 (c : Dev nD) : bigSep Finset.univ (fun r => free10 c (Memref.whole cc0_scratch1) cc0_scratch5 r)
    ⊢ (iprop((∃ f, c.tc.loc cc0_scratch1 ↦{fullShare} f)
      ∗ bigSep Finset.univ (fun r : Fin 10 => semVal (c.tc, .dma (cell10 cc0_scratch5 r)) 0)) : sProp 𝕄) := by
  unfold free10
  rw [bigSep_sep']
  iintro ⟨H, Hs⟩
  isplitl [H]
  · have h : bigSep Finset.univ (fun r => Room c.tc (slot10 (Memref.whole cc0_scratch1) r)) ⊢ (iprop(∃ f, c.tc.loc cc0_scratch1 ↦{fullShare} f) : sProp 𝕄) :=
      Whole.join_room c.tc cc0_scratch1 slot10Rect slot10_disjoint slot10_cover
    iapply h $$ H
  · iexact Hs

theorem slots8 (c : Dev nD) : (iprop((∃ f, c.tc.loc cc0_scratch2 ↦{fullShare} f)
      ∗ bigSep Finset.univ (fun r : Fin 8 => semVal (c.tc, .dma (cell8 cc0_scratch6 r)) 0)) : sProp 𝕄)
    ⊢ bigSep Finset.univ (fun r => free8 c (Memref.whole cc0_scratch2) cc0_scratch6 r) := by
  unfold free8
  rw [bigSep_sep']
  iintro ⟨H, Hs⟩
  isplitl [H]
  · have h : (iprop(∃ f, c.tc.loc cc0_scratch2 ↦{fullShare} f) : sProp 𝕄) ⊢ bigSep Finset.univ fun r => Room c.tc (slot8 (Memref.whole cc0_scratch2) r) :=
      Whole.split_room c.tc cc0_scratch2 slot8Rect slot8_disjoint slot8_cover
    iapply h $$ H
  · iexact Hs

theorem unslots8 (c : Dev nD) : bigSep Finset.univ (fun r => free8 c (Memref.whole cc0_scratch2) cc0_scratch6 r)
    ⊢ (iprop((∃ f, c.tc.loc cc0_scratch2 ↦{fullShare} f)
      ∗ bigSep Finset.univ (fun r : Fin 8 => semVal (c.tc, .dma (cell8 cc0_scratch6 r)) 0)) : sProp 𝕄) := by
  unfold free8
  rw [bigSep_sep']
  iintro ⟨H, Hs⟩
  isplitl [H]
  · have h : bigSep Finset.univ (fun r => Room c.tc (slot8 (Memref.whole cc0_scratch2) r)) ⊢ (iprop(∃ f, c.tc.loc cc0_scratch2 ↦{fullShare} f) : sProp 𝕄) :=
      Whole.join_room c.tc cc0_scratch2 slot8Rect slot8_disjoint slot8_cover
    iapply h $$ H
  · iexact Hs

/-- What the launch hands the kernel, block by block. -/
theorem enter (c : Dev nD) : held m (V m) c ⊢ iprop(restOf c (inX m c) (inY m c)
    ∗ bigSep Finset.univ (fun b => Room c.tc (rows (Memref.whole main_v2) b))
    ∗ bigSep Finset.univ (fun r => free8 c (Memref.whole cc0_scratch2) cc0_scratch6 r)) := by
  rw [held_eq]
  have h0 : (c.tc.loc main_v0 ↦{fullShare} V m c main_v0 : sProp 𝕄)
      ⊢ bigSep Finset.univ fun b => Has c.tc (rows (Memref.whole main_v0) b) fullShare (inX m c b) :=
    Whole.split c.tc main_v0 rowRect rows_disjoint rows_cover fullShare _
  have h1 : (c.tc.loc main_v1 ↦{fullShare} V m c main_v1 : sProp 𝕄)
      ⊢ bigSep Finset.univ fun b => Has c.tc (rows (Memref.whole main_v1) b) fullShare (inY m c b) :=
    Whole.split c.tc main_v1 rowRect rows_disjoint rows_cover fullShare _
  have h2 : (iprop(∃ f, c.tc.loc main_v2 ↦{fullShare} f) : sProp 𝕄) ⊢ bigSep Finset.univ fun b => Room c.tc (rows (Memref.whole main_v2) b) :=
    Whole.split_room c.tc main_v2 rowRect rows_disjoint rows_cover
  have hy : (iprop(∃ f, c.tc.loc cc0_scratch0 ↦{fullShare} f) : sProp 𝕄) ⊢ bigSep Finset.univ fun b => Room c.tc (rows (Memref.whole cc0_scratch0) b) :=
    Whole.split_room c.tc cc0_scratch0 rowRect rows_disjoint rows_cover
  have hm : (iprop(∃ f, c.tc.loc cc0_scratch3 ↦{fullShare} f) : sProp 𝕄) ⊢ bigSep Finset.univ fun b => Room c.tc (maxs (Memref.whole cc0_scratch3) b) :=
    Whole.split_room c.tc cc0_scratch3 maxRect maxs_disjoint maxs_cover
  iintro ⟨⟨Hy, Hu, Ho, Hm⟩, ⟨Hs0, Hs1, Hs2⟩, ⟨H0, H1⟩, H2⟩
  unfold restOf rest
  isplitl [Hy Hu Hm Hs0 Hs1 H0 H1]
  · isplitl [Hs0]; · iexact Hs0
    isplitl [H0]; · iapply h0 $$ H0
    isplitl [Hy]; · iapply hy $$ Hy
    isplitl [Hm]; · iapply hm $$ Hm
    isplitl [H1]; · iapply h1 $$ H1
    iapply (slots10 c)
    isplitl [Hu] <;> iassumption
  isplitl [H2]
  · iapply h2
    iexists _
    iexact H2
  iapply (slots8 c)
  isplitl [Ho] <;> iassumption

/-- What the kernel gives back is the buffers whole, the output at `output`. -/
theorem leave (c : Dev nD) : iprop(restOf c (inX m c) (inY m c)
    ∗ bigSep Finset.univ (fun b => Has c.tc (rows (Memref.whole main_v2) b) fullShare (result (inX m c) (inY m c) b))
    ∗ bigSep Finset.univ (fun r => free8 c (Memref.whole cc0_scratch2) cc0_scratch6 r)) ⊢ held m (after m) c := by
  rw [held_eq]
  have h0 : bigSep Finset.univ (fun b => Has c.tc (rows (Memref.whole main_v0) b) fullShare (inX m c b))
      ⊢ (c.tc.loc main_v0 ↦{fullShare} V m c main_v0 : sProp 𝕄) :=
    Whole.join c.tc main_v0 rowRect rows_disjoint rows_cover fullShare _
  have h1 : bigSep Finset.univ (fun b => Has c.tc (rows (Memref.whole main_v1) b) fullShare (inY m c b))
      ⊢ (c.tc.loc main_v1 ↦{fullShare} V m c main_v1 : sProp 𝕄) :=
    Whole.join c.tc main_v1 rowRect rows_disjoint rows_cover fullShare _
  have h2 : bigSep Finset.univ (fun b => Has c.tc (rows (Memref.whole main_v2) b) fullShare (result (inX m c) (inY m c) b))
      ⊢ (c.tc.loc main_v2 ↦{fullShare} after m c main_v2 : sProp 𝕄) := by
    rw [show after m c main_v2 = output m c from Function.update_self _ _ _]
    have e : ∀ b, result (inX m c) (inY m c) b = cut (output m c) b := fun b => (cut_glue _ b).symm
    simp only [e]
    exact Whole.join c.tc main_v2 rowRect rows_disjoint rows_cover fullShare (output m c)
  have hy : bigSep Finset.univ (fun b => Room c.tc (rows (Memref.whole cc0_scratch0) b)) ⊢ (iprop(∃ f, c.tc.loc cc0_scratch0 ↦{fullShare} f) : sProp 𝕄) :=
    Whole.join_room c.tc cc0_scratch0 rowRect rows_disjoint rows_cover
  have hm : bigSep Finset.univ (fun b => Room c.tc (maxs (Memref.whole cc0_scratch3) b)) ⊢ (iprop(∃ f, c.tc.loc cc0_scratch3 ↦{fullShare} f) : sProp 𝕄) :=
    Whole.join_room c.tc cc0_scratch3 maxRect maxs_disjoint maxs_cover
  unfold restOf rest
  iintro ⟨⟨Hs0, H0, Hy, Hm, H1, Hu⟩, H2, Ho⟩
  ihave ⟨Hu, Hs1⟩ := (unslots10 c) $$ Hu
  ihave ⟨Ho, Hs2⟩ := (unslots8 c) $$ Ho
  isplitl [Hy Hu Ho Hm]
  · isplitl [Hy]; · iapply hy $$ Hy
    isplitl [Hu]; · iexact Hu
    isplitl [Ho]; · iexact Ho
    iapply hm $$ Hm
  isplitl [Hs0 Hs1 Hs2]
  · isplitl [Hs0]; · iexact Hs0
    isplitl [Hs1] <;> iassumption
  isplitl [H0 H1]
  · isplitl [H0]; · iapply h0 $$ H0
    iapply h1 $$ H1
  iapply h2 $$ H2

/-! ### The launch -/

/-- The proof data: no window, nothing owed; the buffers as the kernel finds them, then as it leaves them. -/
def dats (_ : Fin 1) (c : Dev nD) : Dat τ (Elt F) Unit ℕ (Pipeline.UD sig nD τ) ℕ cfg0 c where
  A w := V m c (Pipeline.arrRef cfg0.spec w)
  after w _ := w.elim0
  Φ t := if t.val = 0 then held m (V m) c else held m (after m) c
  q _ := fullShare
  owed _ := 0

theorem sound (c : Dev nD) (t : Fin cfg0.N) :
    iprop(held m (V m) c ∗ ∃ W, owes c.tc 0 W)
      ⊢ wp frame (wpE (defs₀ (F := F)) Variants.none c.tc none) Set.univ (bodyAt0 t)
        (fun _ => iprop(held m (after m) c ∗ ∃ W, owes c.tc 0 W)) := by
  iintro ⟨H, HO⟩
  ihave ⟨Hr, H2, Hs⟩ := (enter m c) $$ H
  iapply (body (𝒱 := Variants.none) (bd := none) countersEmb c (Memref.whole main_v0) _ (Memref.whole main_v1) _ (Memref.whole main_v2) _
    (Memref.whole cc0_scratch0) _ (Memref.whole cc0_scratch1) _ (Memref.whole cc0_scratch2) _ (Memref.whole cc0_scratch3) _
    cc0_scratch4 cc0_scratch5 cc0_scratch6 (inX m c) (inY m c)) $$ [Hr H2 Hs HO]
  · isplitl [Hr]; · iexact Hr
    isplitl [H2]; · iexact H2
    isplitl [Hs] <;> iassumption
  iintro ⟨Hr, H2, Hs, HO⟩
  isplitl [Hr H2 Hs]
  · iapply (leave m c)
    isplitl [Hr]; · iexact Hr
    isplitl [H2] <;> iassumption
  iexact HO

theorem defs₀_row (t : Fin cfg0.N) : defs₀ (F := F) .tc cfg0.body (cfg0.bodyArgs t (cfg0.slots t)) = bodyAt0 t := by
  unfold defs₀; rw [Defs.onTc_tc]

theorem obligation (c : Dev nD) : BodyObligationLoose (dats m 0 c) (defs₀ (F := F)) Variants.none () Set.univ := fun t => by
  obtain rfl := fin_N0 t
  rw [defs₀_row]
  rw [show (dats m 0 c).Φ t0_0.castSucc = held m (V m) c from rfl, show (dats m 0 c).Φ t0_0.succ = held m (after m) c from rfl]
  refine triple_restated (sound m c t0_0) rfl ?_ fun _ => ?_
  · iintro ⟨H, HO, -⟩
    isplitl [H]; · iexact H
    icases HO with ⟨%W, -, HO⟩
    iexists W; iexact HO
  · iintro ⟨H, ⟨%W, HO⟩⟩
    isplitl [H]; · iexact H
    isplitl [HO]
    · iexists W
      isplitr; · ipureintro; exact fun _ _ => Or.inl trivial
      iexact HO
    · iempintro

theorem reads_sub : reads ⊆ Pipeline.restRefs sig cfg0.spec := by decide
theorem writes_sub : writes ⊆ Pipeline.restRefs sig cfg0.spec \ reads := by decide

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What every buffer of the host holds when @main returns. -/
def final (c : Dev nD) : Valuation τ sig (Elt F) :=
  StableHlo.after [hostOps1].flatten (Pipeline.withArrays cfg0.spec c (Pipeline.withR (V0 m c) writes c (after m c)) fun w => (dats m 0 c).arrAt w cfg0.N)

set_option backward.isDefEq.respectTransparency.types false in
theorem run_all (ρ : Dev nD → PrngReg) :
    θ_run defs (onTc (τ := τ) (main (F := F))) (s₀ m ρ)
      (fun r => (∀ c : Dev nD, ∀ b ∈ Pipeline.restRefs sig cfg0.spec, r.2.mem ((c : Thread nD τ).loc b) = final m c (Proc.devRef .tc b)) ∧ r.2.sem = fun _ => 0) :=
  Pipeline.θ_run_frame_dmaR_aroundV (Q' := _) cfgs (dats m) (0 : Fin 1) launch0 cells defs₀ Variants.none cells_facts reads writes reads_sub writes_sub m ρ main
    (hbody := fun c => obligation m c) (hshare := fun c => (dats m 0 c).share_full fun _ => rfl)
    (howed := fun _ _ => rfl) (V₀ := V0 m) (opss := [hostOps1]) (hsub := sfx_sub) (hfresh := sfx_fresh) (hkeep := sfx_keeps)
    (G := after m) (hmain := hmainD m Variants.none) (hA := fun _ _ => rfl)
    (hin := fun _ => .rfl) (hout := fun _ => .rfl)
    (hQ' := fun r h => ⟨fun c => (h.1 c).2, h.2⟩)

end Cert.KernelIdeal.Run

end
-- ==== Proof.Ends.lean ====
/-
  What the buffers of the host hold when the program returns: both arguments what they held at the start, and the
  result the transpose of what the kernel wrote.
-/
module

public import proofs.«01_k».proof.Proof.Run

@[expose] public section

noncomputable section

namespace Cert.KernelIdeal.Ends

open Idealize.ShloMosaic Idealize.ShloMosaic.TcCoe Idealize.SL Idealize.SL.Sem
open Cert.KernelIdeal Cert.KernelIdeal.Gen Cert.KernelIdeal.Run

variable {F : FTy → Type} [FloatOps F] (m : (ℓ : Loc nD τ sig) → Buf (Elt F) ℓ)

/-- The transposed logits, as the kernel finds them. -/
theorem start_logits (c : Dev nD) : V m c main_v0
    = transpose S100000x128 [1, 0] (m ((c : Thread nD τ).loc main_arg0) : FVec F S128x100000 .f32) (Gen.transposes_S128x100000_S100000x128_1_0) := by
  show StableHlo.after hostOps0 (fun b => m (c, b)) (Proc.devRef .tc main_v0) = _
  unfold hostOps0
  rw [StableHlo.after_cons, StableHlo.after_cons, StableHlo.after_nil]
  rw [StableHlo.unary_result_ne' _ _ _ _ (by decide), StableHlo.unary_result']

/-- The transposed uniform draws, as the kernel finds them. -/
theorem start_draws (c : Dev nD) : V m c main_v1
    = transpose S100000x128 [1, 0] (m ((c : Thread nD τ).loc main_arg1) : FVec F S128x100000 .f32) (Gen.transposes_S128x100000_S100000x128_1_0) := by
  show StableHlo.after hostOps0 (fun b => m (c, b)) (Proc.devRef .tc main_v1) = _
  unfold hostOps0
  rw [StableHlo.after_cons, StableHlo.after_cons, StableHlo.after_nil]
  rw [StableHlo.unary_result', StableHlo.unary_result_ne' _ _ _ _ (by decide)]

/-- The logits end as they began. -/
theorem final_logits (c : Dev nD) : final m c (Proc.devRef .tc main_arg0) = m ((c : Thread nD τ).loc main_arg0) := by
  unfold final
  rw [StableHlo.after_of_forall_not_mem (b := Proc.devRef .tc main_arg0) _ _ (List.forall_iff_forall_mem.mp (by
      simp only [hostOps1, List.flatten_cons, List.flatten_nil, List.append_nil, List.Forall, StableHlo.unary_writes, Finset.mem_singleton]
      exact StableHlo.devRef_ne_of_ne (by decide))),
    Pipeline.withArrays_of_ne _ c _ _ main_arg0 (by exact (by decide : ∀ w, Pipeline.arrRef (cfg0.spec) w ≠ main_arg0)),
    Pipeline.withR_of_not_mem _ _ _ _ main_arg0 (by decide)]
  exact V_main_arg0 m c

/-- The uniform draws end as they began. -/
theorem final_draws (c : Dev nD) : final m c (Proc.devRef .tc main_arg1) = m ((c : Thread nD τ).loc main_arg1) := by
  unfold final
  rw [StableHlo.after_of_forall_not_mem (b := Proc.devRef .tc main_arg1) _ _ (List.forall_iff_forall_mem.mp (by
      simp only [hostOps1, List.flatten_cons, List.flatten_nil, List.append_nil, List.Forall, StableHlo.unary_writes, Finset.mem_singleton]
      exact StableHlo.devRef_ne_of_ne (by decide))),
    Pipeline.withArrays_of_ne _ c _ _ main_arg1 (by exact (by decide : ∀ w, Pipeline.arrRef (cfg0.spec) w ≠ main_arg1)),
    Pipeline.withR_of_not_mem _ _ _ _ main_arg1 (by decide)]
  exact V_main_arg1 m c

/-- The result is the transpose of what the kernel wrote. -/
theorem final_result (c : Dev nD) : final m c (Proc.devRef .tc main_v3)
    = transpose S128x100000 [1, 0] (output m c : FVec F S100000x128 .f32) (Gen.transposes_S100000x128_S128x100000_1_0) := by
  have e : Pipeline.withArrays cfg0.spec c (Pipeline.withR (V0 m c) writes c (after m c)) (fun w => (dats m 0 c).arrAt w cfg0.N)
      (Proc.devRef .tc main_v2) = output m c := by
    rw [Pipeline.withArrays_of_ne _ c _ _ main_v2 (by exact (by decide : ∀ w, Pipeline.arrRef (cfg0.spec) w ≠ main_v2)),
      Pipeline.withR_of_mem _ _ _ _ main_v2 (by decide)]
    exact Function.update_self _ _ _
  show StableHlo.after hostOps1 _ (Proc.devRef .tc main_v3) = _
  unfold hostOps1
  rw [StableHlo.after_cons, StableHlo.after_nil, StableHlo.unary_result', e]

/-- Every run ends, on every device, with the arguments unchanged, the result the transpose of what the kernel wrote,
    and every semaphore at zero. -/
theorem run_value (ρ : Dev nD → PrngReg) :
    θ_run defs (onTc (τ := τ) (main (F := F))) (s₀ m ρ)
      (fun r => (∀ c : Dev nD, r.2.mem ((c : Thread nD τ).loc main_v3)
            = transpose S128x100000 [1, 0] (output m c : FVec F S100000x128 .f32) (Gen.transposes_S100000x128_S128x100000_1_0)
          ∧ r.2.mem ((c : Thread nD τ).loc main_arg0) = m ((c : Thread nD τ).loc main_arg0)
          ∧ r.2.mem ((c : Thread nD τ).loc main_arg1) = m ((c : Thread nD τ).loc main_arg1))
        ∧ r.2.sem = fun _ => 0) :=
  (θ_run defs _ _).mono (fun r h => ⟨fun c =>
    ⟨(h.1 c main_v3 (Pipeline.mem_restRefs_of _ (by decide) (by decide))).trans (final_result m c),
     (h.1 c main_arg0 (Pipeline.mem_restRefs_of _ (by decide) (by decide))).trans (final_logits m c),
     (h.1 c main_arg1 (Pipeline.mem_restRefs_of _ (by decide) (by decide))).trans (final_draws m c)⟩, h.2⟩) (run_all m ρ)

end Cert.KernelIdeal.Ends

end
-- ==== Proof.Frames.lean ====
/-
  The frames: every run of the kernel, of its ideal reading and of the reference terminates without a fault, leaves the
  arguments as they were and every semaphore at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_rows_have_finite_tops
public import proofs.«01_k».proof.Proof.Ends
public import Idealize.ShloMosaic.Lib.Quiescent

@[expose] public section

noncomputable section

namespace Cert.Frames

open Idealize.ShloMosaic Idealize.ShloMosaic.TcCoe Idealize.SL Idealize.SL.Sem

/-- The ideal kernel's frame. -/
theorem kernelIdeal : Cert.quiescent_KernelIdeal := fun m g _ =>
  (θ_run Cert.KernelIdeal.defs _ _).mono (fun _ h => ⟨fun c => (h.1 c).2, h.2⟩) (Cert.KernelIdeal.Ends.run_value m g)

/-- The ideal kernel's frame under the precondition of the equality. -/
theorem kernelIdeal_pre : Cert.quiescent_KernelIdeal_pre_rows_have_finite_tops := fun m g _ =>
  (θ_run Cert.KernelIdeal.defs _ _).mono (fun _ h => ⟨fun c => (h.1 c).2, h.2⟩) (Cert.KernelIdeal.Ends.run_value m g)

/-- The reference's frame: it declares no semaphore. -/
theorem referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The reference's frame under the precondition of the equality. -/
theorem referenceIdeal_pre : Cert.quiescent_ReferenceIdeal_pre_rows_have_finite_tops := fun m g _ =>
  (θ_run Cert.ReferenceIdeal.defs _ _).mono (fun r h => ⟨fun c => (h c).2, sem_eq_zero_of_no_sems (by decide) r.2⟩)
    (Cert.ReferenceIdeal.Value.run m g)

/-- The kernel and its ideal reading are one text: the kernel's run over machine words is the generic run read there. -/
theorem same_main : (Cert.Kernel.main (F := Bits)) = Cert.KernelIdeal.main (F := Bits) := rfl

theorem same_defs : (Cert.Kernel.defs (F := Bits)) = Cert.KernelIdeal.defs (F := Bits) := rfl

/-- The kernel's frame. -/
theorem kernel : Cert.quiescent_Kernel := fun m g _ => by
  rw [same_main, same_defs]
  exact (θ_run Cert.KernelIdeal.defs _ _).mono (fun _ h => ⟨fun c => (h.1 c).2, h.2⟩) (Cert.KernelIdeal.Ends.run_value (F := Bits) m g)

end Cert.Frames

end
-- ==== Proof.Softmax.lean ====
/-
  The softmax over the extended reals, on scores below +∞ of which one at least is above −∞: the shift taken off the scores
  cancels, whether it is taken off at once or block by block.
-/
module

public import Idealize.ShloMosaic.PureOps.Ideal
public import Idealize.ShloMosaic.PureOps.Ideal.Laws

@[expose] public section

noncomputable section

namespace Cert.Softmax

open Idealize.ShloMosaic

/-- The exponential of a score, as a real number; of −∞ it is zero. -/
def weight (y : EReal) : ℝ := (Ideal.exp y).toReal

theorem weight_coe (r : ℝ) : weight (r : EReal) = Real.exp r := rfl

theorem weight_bot : weight ⊥ = 0 := rfl

theorem weight_nonneg (y : EReal) : 0 ≤ weight y := by
  induction y with
  | bot => exact le_rfl
  | top => exact le_rfl
  | coe r => rw [weight_coe]; exact (Real.exp_pos r).le

theorem weight_pos {y : EReal} (hb : y ≠ ⊥) (ht : y ≠ ⊤) : 0 < weight y := by
  induction y with
  | bot => exact absurd rfl hb
  | top => exact absurd rfl ht
  | coe r => rw [weight_coe]; exact Real.exp_pos r

/-- An extended real that is neither infinity is a real. -/
theorem exists_real {y : EReal} (hb : y ≠ ⊥) (ht : y ≠ ⊤) : ∃ r : ℝ, y = r := ⟨y.toReal, (EReal.coe_toReal ht hb).symm⟩

/-- A real taken off a score divides its exponential. -/
theorem exp_sub {y : EReal} (ht : y ≠ ⊤) (a : ℝ) : Ideal.exp (y - (a : EReal)) = ((weight y * Real.exp (-a) : ℝ) : EReal) := by
  induction y with
  | bot => rw [EReal.bot_sub, weight_bot, zero_mul]; rfl
  | top => exact absurd rfl ht
  | coe r => rw [← EReal.coe_sub, Ideal.exp_coe, weight_coe, ← Real.exp_add, sub_eq_add_neg]

/-- The sum of real numbers is the same taken in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem sum_exp_sub {ι : Type} (s : Finset ι) (y : ι → EReal) (ht : ∀ i, y i ≠ ⊤) (a : ℝ) :
    ∑ i ∈ s, Ideal.exp (y i - (a : EReal)) = (((∑ i ∈ s, weight (y i)) * Real.exp (-a) : ℝ) : EReal) := by
  rw [Finset.sum_congr rfl fun i _ => exp_sub (ht i) a, sum_coe, Finset.sum_mul]

section Rows

variable {ι : Type} [Fintype ι]

theorem fold_eq_sup (y : ι → EReal) : Finset.univ.fold max ⊥ y = Finset.univ.sup y := rfl

/-- The greatest score is not +∞ where none is. -/
theorem top_ne_top (y : ι → EReal) (ht : ∀ i, y i ≠ ⊤) : Finset.univ.fold max ⊥ y ≠ ⊤ := by
  rw [fold_eq_sup]
  exact ((Finset.sup_lt_iff bot_lt_top).mpr fun i _ => lt_top_iff_ne_top.mpr (ht i)).ne

/-- Every score is at most the greatest. -/
theorem le_top (y : ι → EReal) (i : ι) : y i ≤ Finset.univ.fold max ⊥ y := by
  rw [fold_eq_sup]; exact Finset.le_sup (Finset.mem_univ i)

/-- The greatest score is above −∞ only where one is. -/
theorem exists_of_top (y : ι → EReal) (h : Finset.univ.fold max ⊥ y ≠ ⊥) : ∃ i, y i ≠ ⊥ := by
  by_contra hn
  push Not at hn
  exact h (by rw [fold_eq_sup]; exact (Finset.sup_eq_bot_iff _ _).mpr fun i _ => hn i)

/-- The greatest score is a real. -/
theorem top_real (y : ι → EReal) (ht : ∀ i, y i ≠ ⊤) (hb : ∃ i, y i ≠ ⊥) : ∃ r : ℝ, Finset.univ.fold max ⊥ y = r := by
  obtain ⟨i, hi⟩ := hb
  exact exists_real (fun h => hi (le_bot_iff.mp (h ▸ le_top y i))) (top_ne_top y ht)

theorem total_pos (y : ι → EReal) (ht : ∀ i, y i ≠ ⊤) (hb : ∃ i, y i ≠ ⊥) : 0 < ∑ i, weight (y i) := by
  obtain ⟨i, hi⟩ := hb
  exact Finset.sum_pos' (fun j _ => weight_nonneg _) ⟨i, Finset.mem_univ i, weight_pos hi (ht i)⟩

/-! ### The running pair -/

/-- One more block: from the running maximum and the running sum, both scaled alike, the next of each. -/
theorem next (y : ι → EReal) (ht : ∀ i, y i ≠ ⊤) (M S : EReal) (μ T : ℝ) (hM : M = (μ : EReal))
    (hS : S = ((T * Real.exp (-μ) : ℝ) : EReal)) :
    ∃ ν : ℝ, max M (Finset.univ.fold max ⊥ y) = (ν : EReal)
      ∧ S * Ideal.exp (M - max M (Finset.univ.fold max ⊥ y)) + ∑ i, Ideal.exp (y i - max M (Finset.univ.fold max ⊥ y))
        = (((T + ∑ i, weight (y i)) * Real.exp (-ν) : ℝ) : EReal) := by
  subst hM hS
  have hm : max (μ : EReal) (Finset.univ.fold max ⊥ y) ≠ ⊥ := fun h => EReal.coe_ne_bot μ (max_eq_bot.mp h).1
  have hx : max (μ : EReal) (Finset.univ.fold max ⊥ y) ≠ ⊤ :=
    (max_lt (EReal.coe_lt_top μ) (lt_top_iff_ne_top.mpr (top_ne_top y ht))).ne
  obtain ⟨ν, hν⟩ := exists_real hm hx
  refine ⟨ν, hν, ?_⟩
  rw [hν, sum_exp_sub _ _ ht, exp_sub (EReal.coe_ne_top μ), weight_coe, ← EReal.coe_mul, ← EReal.coe_add]
  congr 1
  have e : Real.exp (-μ) * Real.exp μ = 1 := by rw [← Real.exp_add, neg_add_cancel, Real.exp_zero]
  linear_combination T * Real.exp (-ν) * e

/-- What goes out: the block's exponential brought from the block's maximum to the overall one and divided by the overall sum. -/
theorem scaled {y : EReal} (ht : y ≠ ⊤) (ν μ T : ℝ) (hT : 0 < T) :
    Ideal.exp (y - (ν : EReal)) * (Ideal.exp ((ν : EReal) - (μ : EReal)) * Ideal.div 1 ((T * Real.exp (-μ) : ℝ) : EReal))
      = ((weight y / T : ℝ) : EReal) := by
  have hμ := Real.exp_pos (-μ)
  rw [exp_sub ht, exp_sub (EReal.coe_ne_top ν), weight_coe, Ideal.div_coe (mul_pos hT hμ).ne', one_mul, ← EReal.coe_mul, ← EReal.coe_mul]
  congr 1
  have e : Real.exp (-ν) * Real.exp ν = 1 := by rw [← Real.exp_add, neg_add_cancel, Real.exp_zero]
  field_simp
  linear_combination weight y * e

/-! ### The reference's row -/

/-- A row less its greatest entry. -/
def off (z : ι → EReal) (i : ι) : EReal := z i - max ⊥ (Finset.univ.fold max ⊥ z)

/-- A row's log-softmax. -/
def logProb (x : ι → EReal) (i : ι) : EReal := off x i - Ideal.log (0 + ∑ k, Ideal.exp (off x k))

/-- A row's softmax. -/
def soft (z : ι → EReal) (i : ι) : EReal := Ideal.div (Ideal.exp (off z i)) (0 + ∑ k, Ideal.exp (off z k))

/-- The softmax of a row below +∞, not all −∞: each weight over their sum. -/
theorem soft_eq (z : ι → EReal) (ht : ∀ i, z i ≠ ⊤) (hb : ∃ i, z i ≠ ⊥) (i : ι) :
    soft z i = ((weight (z i) / ∑ k, weight (z k) : ℝ) : EReal) := by
  obtain ⟨μ, hμ⟩ := top_real z ht hb
  have hT := total_pos z ht hb
  unfold soft off
  rw [max_bot_left, hμ, zero_add, sum_exp_sub _ _ ht, exp_sub (ht i), Ideal.div_coe (mul_pos hT (Real.exp_pos _)).ne', ← EReal.coe_mul]
  congr 1
  have := Real.exp_pos (-μ)
  field_simp

/-- The log-softmax takes one real off the whole row. -/
theorem logProb_eq (x : ι → EReal) (ht : ∀ i, x i ≠ ⊤) (hb : ∃ i, x i ≠ ⊥) : ∃ a : ℝ, ∀ i, logProb x i = x i - (a : EReal) := by
  obtain ⟨μ, hμ⟩ := top_real x ht hb
  have hT := total_pos x ht hb
  have hp : 0 < (∑ k, weight (x k)) * Real.exp (-μ) := mul_pos hT (Real.exp_pos _)
  refine ⟨μ + Real.log ((∑ k, weight (x k)) * Real.exp (-μ)), fun i => ?_⟩
  unfold logProb off
  rw [max_bot_left, hμ, zero_add, sum_exp_sub _ _ ht, Ideal.log_coe, if_neg (not_le.mpr hp), sub_eq_add_neg, sub_eq_add_neg, sub_eq_add_neg,
    add_assoc, ← EReal.coe_neg, ← EReal.coe_neg, ← EReal.coe_neg, ← EReal.coe_add]
  congr 2
  ring

/-- A row of scores less one real has the same softmax: the weights' common factor cancels. -/
theorem weight_sub {y : EReal} (ht : y ≠ ⊤) (a : ℝ) : weight (y - (a : EReal)) = weight y * Real.exp (-a) := by
  unfold weight
  rw [exp_sub ht, EReal.toReal_coe]
  rfl

theorem sub_coe_ne_top {y : EReal} (ht : y ≠ ⊤) (a : ℝ) : y - (a : EReal) ≠ ⊤ := by
  induction y with
  | bot => rw [EReal.bot_sub]; exact bot_ne_top
  | top => exact absurd rfl ht
  | coe r => rw [← EReal.coe_sub]; exact EReal.coe_ne_top _

theorem sub_coe_ne_bot {y : EReal} (hb : y ≠ ⊥) (a : ℝ) : y - (a : EReal) ≠ ⊥ := by
  induction y with
  | bot => exact absurd rfl hb
  | top => rw [EReal.top_sub_coe]; exact top_ne_bot
  | coe r => rw [← EReal.coe_sub]; exact EReal.coe_ne_bot _

/-- The reference's row: the softmax of the perturbed log-probabilities is each weight of the perturbed logits over their sum. -/
theorem reference_row (x g : ι → EReal) (hx : ∀ i, x i ≠ ⊤) (ht : ∀ i, x i + g i ≠ ⊤) (hb : ∃ i, x i + g i ≠ ⊥) (i : ι) :
    soft (fun k => Ideal.div (logProb x k + g k) 1) i
      = ((weight (x i + g i) / ∑ k, weight (x k + g k) : ℝ) : EReal) := by
  have hxb : ∃ k, x k ≠ ⊥ := hb.imp fun k hk h => hk (by rw [h, EReal.bot_add])
  obtain ⟨a, ha⟩ := logProb_eq x hx hxb
  have e : (fun k => Ideal.div (logProb x k + g k) 1) = fun k => (x k + g k) - (a : EReal) := by
    funext k
    rw [show (1 : EReal) = ((1 : ℝ) : EReal) from rfl, Ideal.div_coe one_ne_zero, div_one, EReal.coe_one, mul_one, ha, sub_eq_add_neg,
      sub_eq_add_neg, add_right_comm]
  rw [e, soft_eq _ (fun k => sub_coe_ne_top (ht k) a) (hb.imp fun k hk => sub_coe_ne_bot hk a)]
  congr 1
  rw [weight_sub (ht i), Finset.sum_congr rfl fun k _ => weight_sub (ht k) a, ← Finset.sum_mul,
    mul_div_mul_right _ _ (Real.exp_pos _).ne']

end Rows

end Cert.Softmax

end
-- ==== Proof.Payload.lean ====
/-
  The kernel's blocks read at an index over the extended reals.
-/
module

public import proofs.«01_k».proof.Proof.First
public import proofs.«01_k».proof.Proof.Last
public import proofs.«01_k».proof.Proof.Softmax
public import Idealize.ShloMosaic.Lib.Pointwise

@[expose] public section

set_option maxRecDepth 16384

noncomputable section

namespace Cert.KernelIdeal.Payload

open Idealize.ShloMosaic
open Cert.KernelIdeal Cert.KernelIdeal.Gen Cert.KernelIdeal.Places Cert.KernelIdeal.First Cert.KernelIdeal.Last

/-- The constant that keeps the first logarithm off zero. -/
def eps : EReal := Ideal.ofBits .f32 0x2D2FEBFF#32

/-- The Gumbel noise of a uniform draw. -/
def noise (u : EReal) : EReal := -Ideal.log (-Ideal.log (u + eps))

/-- A perturbed logit. -/
def score (x u : EReal) : EReal := x + noise u

/-- The word of −∞. -/
theorem ofBits_neg_inf : Ideal.ofBits .f32 0xFF800000#32 = ⊥ := by
  simp [Ideal.ofBits, Ideal.ieee]

/-- The word of +∞. -/
theorem ofBits_inf : Ideal.ofBits .f32 0x7F800000#32 = ⊤ := by
  simp [Ideal.ofBits, Ideal.ieee]

/-- The running maximum starts at a real number. -/
theorem ofBits_start : ∃ r : ℝ, Ideal.ofBits .f32 0xFF61B1E6#32 = (r : EReal) := by
  simp only [Ideal.ofBits, Ideal.ieee]
  rw [if_neg (by decide), if_neg (by decide)]
  exact ⟨_, rfl⟩

variable (x : S1000x128.Idx → EReal) (u : S1000x128.Idx → EReal) (M S : FVec Ideal S1x128 .f32)

theorem asSlot_apply (r : Fin 1000) (l : Fin 128) : asSlot u (ix3 (0 : Fin 1) r l) = u (ix2 r l) := by
  unfold asSlot
  refine congrArg u ((Equiv.symm_apply_eq _).mpr ?_)
  pointwise

theorem pay1_apply (r : Fin 1000) (l : Fin 128) : k0_pay1 (F := Ideal) x (asSlot u) (ix2 r l) = score (x (ix2 r l)) (u (ix2 r l)) := by
  pointwise [k0_pay1, score, noise, eps]
  rw [asSlot_apply, zero_sub, sub_eq_add_neg]

theorem pay2_apply (l : Fin 128) : k0_pay2 (F := Ideal) M x (asSlot u) (ix2 0 l)
    = max (M (ix2 0 l)) (Finset.univ.fold max ⊥ fun r : Fin 1000 => k0_pay1 (F := Ideal) x (asSlot u) (ix2 r l)) := by
  pointwise [k0_pay2]
  rw [ofBits_neg_inf]

theorem pay3_apply (r : Fin 1000) (l : Fin 128) : k0_pay3 (F := Ideal) M x (asSlot u) (ix2 r l)
    = Ideal.exp (k0_pay1 (F := Ideal) x (asSlot u) (ix2 r l) - k0_pay2 (F := Ideal) M x (asSlot u) (ix2 0 l)) := by
  pointwise [k0_pay3]

theorem pay4_apply (r : Fin 1000) (l : Fin 128) : k0_pay4 (F := Ideal) M x (asSlot u) (ix2 r l)
    = k0_pay3 (F := Ideal) M x (asSlot u) (ix2 r l) := by
  pointwise [k0_pay4]

theorem pay8_apply (a : Fin 8) (l : Fin 128) : k0_pay8 (F := Ideal) (k0_pay5 M x (asSlot u)) (ix2 a l) = k0_pay2 (F := Ideal) M x (asSlot u) (ix2 0 l) := by
  pointwise [k0_pay8, k0_pay5]

theorem pay9_apply (M' : FVec Ideal S1x128 .f32) (E : FVec Ideal S1000x128 .f32) (l : Fin 128) : k0_pay9 (F := Ideal) M S M' E (ix2 0 l)
    = S (ix2 0 l) * Ideal.exp (M (ix2 0 l) - M' (ix2 0 l)) + ∑ r : Fin 1000, E (ix2 r l) := by
  pointwise [k0_pay9]

theorem pay10_apply (T : FVec Ideal S8x128 .f32) (E : FVec Ideal S1000x128 .f32) (r : Fin 1000) (l : Fin 128) :
    ofSlot (k0_pay10 (F := Ideal) M S T E) (ix2 r l)
      = E (ix2 r l) * (Ideal.exp (T (ix2 0 l) - M (ix2 0 l)) * Ideal.div 1 (S (ix2 0 l))) := by
  pointwise [k0_pay10, ofSlot]

end Cert.KernelIdeal.Payload

end
-- ==== Proof.Value.lean ====
/-
  What the kernel computes over the extended reals: at every index, the weight of its score over the sum of the weights
  of its row.
-/
module

public import proofs.«01_k».proof.Proof.Payload
public import proofs.«01_k».proof.Proof.Ends

@[expose] public section

set_option maxRecDepth 16384

noncomputable section

namespace Cert.KernelIdeal.Value

open Idealize.ShloMosaic Idealize.ShloMosaic.TcCoe
open Cert.Softmax Cert.KernelIdeal Cert.KernelIdeal.Gen Cert.KernelIdeal.Places Cert.KernelIdeal.First Cert.KernelIdeal.Last
open Cert.KernelIdeal.Payload Cert.KernelIdeal.Body Cert.KernelIdeal.Run

section Columns

variable (X Y : Fin 100 → S1000x128.Idx → EReal) (l : Fin 128)

/-- The score at row `r` of block `b`, in column `l`. -/
def cell (b : Fin 100) (r : Fin 1000) : EReal := score (X b (ix2 r l)) (Y b (ix2 r l))

/-- The weights of the first `k` blocks, in column `l`. -/
def part (k : ℕ) : ℝ := ∑ b ∈ Finset.univ.filter (fun b : Fin 100 => b.val < k), ∑ r, weight (cell X Y l b r)

theorem part_zero : part X Y l 0 = 0 := by simp [part]

theorem part_succ (b : Fin 100) : part X Y l (b.val + 1) = part X Y l b.val + ∑ r, weight (cell X Y l b r) := by
  have e : (Finset.univ.filter fun c : Fin 100 => c.val < b.val + 1) = insert b (Finset.univ.filter fun c : Fin 100 => c.val < b.val) := by
    ext c
    simp only [Finset.mem_filter, Finset.mem_univ, true_and, Finset.mem_insert, Fin.ext_iff]
    omega
  unfold part
  rw [e, Finset.sum_insert (by simp), add_comm]

theorem part_all : part X Y l 100 = ∑ b : Fin 100, ∑ r, weight (cell X Y l b r) := by
  unfold part
  rw [Finset.filter_true_of_mem fun b _ => b.isLt]

theorem start_top : ∃ μ : ℝ, (k0_pay6 (F := Ideal)) (ix2 0 l) = (μ : EReal) := by
  obtain ⟨r, hr⟩ := ofBits_start
  refine ⟨r, ?_⟩
  pointwise [k0_pay6]
  exact hr

theorem start_sum : (k0_pay7 (F := Ideal)) (ix2 0 l) = (0 : EReal) := by
  pointwise [k0_pay7]

variable (hy : ∀ b r, cell X Y l b r ≠ ⊤)
include hy

/-- The block's scores against the running pair: the two carried values after block `b`. -/
theorem step (b : Fin 100) (M S : FVec Ideal S1x128 .f32) (μ T : ℝ) (hM : M (ix2 0 l) = (μ : EReal))
    (hS : S (ix2 0 l) = ((T * Real.exp (-μ) : ℝ) : EReal)) :
    ∃ ν : ℝ, k0_pay2 (F := Ideal) M (X b) (asSlot (Y b)) (ix2 0 l) = (ν : EReal)
      ∧ k0_pay9 (F := Ideal) M S (k0_pay2 M (X b) (asSlot (Y b))) (k0_pay3 M (X b) (asSlot (Y b))) (ix2 0 l)
        = (((T + ∑ r, weight (cell X Y l b r)) * Real.exp (-ν) : ℝ) : EReal) := by
  have e2 : k0_pay2 (F := Ideal) M (X b) (asSlot (Y b)) (ix2 0 l) = max (M (ix2 0 l)) (Finset.univ.fold max ⊥ (cell X Y l b)) := by
    rw [pay2_apply]
    refine congrArg (max (M (ix2 0 l))) (congrArg (Finset.univ.fold max ⊥) (funext fun r => ?_))
    rw [pay1_apply]; rfl
  obtain ⟨ν, h1, h2⟩ := next (cell X Y l b) (hy b) (M (ix2 0 l)) (S (ix2 0 l)) μ T hM hS
  refine ⟨ν, e2.trans h1, ?_⟩
  rw [← h2, pay9_apply, e2]
  refine congrArg _ (Finset.sum_congr rfl fun r _ => ?_)
  rw [pay3_apply, pay1_apply, e2]; rfl

/-- After `k` blocks the first carried value is a real number, and the second the weights so far, scaled by it. -/
theorem state_eq (k : ℕ) (hk : k ≤ 100) : ∃ μ : ℝ, (state (F := Ideal) X Y k).1 (ix2 0 l) = (μ : EReal)
    ∧ (state (F := Ideal) X Y k).2 (ix2 0 l) = ((part X Y l k * Real.exp (-μ) : ℝ) : EReal) := by
  induction k with
  | zero =>
    obtain ⟨μ, hμ⟩ := start_top l
    refine ⟨μ, hμ, ?_⟩
    rw [part_zero, zero_mul]
    exact start_sum l
  | succ k ih =>
    obtain ⟨μ, hM, hS⟩ := ih (by omega)
    obtain ⟨ν, h1, h2⟩ := step X Y l hy ⟨k, hk⟩ _ _ μ _ hM hS
    have e := state_succ (F := Ideal) X Y ⟨k, hk⟩
    have ep := part_succ X Y l ⟨k, hk⟩
    refine ⟨ν, ?_, ?_⟩
    · rw [show state (F := Ideal) X Y (k + 1) = _ from e]; exact h1
    · rw [show state (F := Ideal) X Y (k + 1) = _ from e, show part X Y l (k + 1) = _ from ep]; exact h2

/-- What the second loop writes: the weight over the weights of the whole column. -/
theorem result_eq (hT : 0 < part X Y l 100) (b : Fin 100) (r : Fin 1000) :
    result (F := Ideal) X Y b (ix2 r l) = ((weight (cell X Y l b r) / part X Y l 100 : ℝ) : EReal) := by
  obtain ⟨μ, hM, hS⟩ := state_eq X Y l hy 100 le_rfl
  obtain ⟨μ', hM', hS'⟩ := state_eq X Y l hy b.val b.isLt.le
  obtain ⟨ν, hν, -⟩ := step X Y l hy b _ _ μ' _ hM' hS'
  unfold result out
  rw [pay10_apply, hM, hS]
  unfold exps tops
  rw [pay4_apply, pay3_apply, pay8_apply, pay1_apply, hν]
  exact scaled (hy b r) ν μ _ hT

end Columns

/-! ### The rows of the program's arguments -/

section Rows

variable (a u : S128x100000.Idx → EReal)

/-- The score at row `l` and column `c`. -/
def mark (l : Fin 128) (c : Fin 100000) : EReal := score (a (ix2 l c)) (u (ix2 l c))

/-- Column `c` is the `r`-th of block `b`. -/
def column (b : Fin 100) (r : Fin 1000) : Fin 100000 := ⟨1000 * b.val + r.val, by have := b.isLt; have := r.isLt; omega⟩

/-- Every column is in one block, at one place. -/
def columns : Fin 100 × Fin 1000 ≃ Fin 100000 where
  toFun p := column p.1 p.2
  invFun c := (⟨c.val / 1000, by have := c.isLt; omega⟩, ⟨c.val % 1000, Nat.mod_lt _ (by decide)⟩)
  left_inv p := by
    have := p.2.isLt
    refine Prod.ext (Fin.ext ?_) (Fin.ext ?_)
    · show (1000 * p.1.val + p.2.val) / 1000 = p.1.val
      omega
    · show (1000 * p.1.val + p.2.val) % 1000 = p.2.val
      omega
  right_inv c := by
    refine Fin.ext ?_
    show 1000 * (c.val / 1000) + c.val % 1000 = c.val
    omega

/-- A row summed block by block is the row summed. -/
theorem sum_columns (f : Fin 100000 → ℝ) : ∑ b : Fin 100, ∑ r : Fin 1000, f (column b r) = ∑ c, f c := by
  rw [← Fintype.sum_prod_type' (f := fun b r => f (column b r))]
  exact Fintype.sum_equiv columns _ _ fun _ => rfl

end Rows

section Ends

variable (m : (ℓ : Loc nD τ sig) → Buf (Elt Ideal) ℓ) (d : Dev nD)

/-- The logits, at an index. -/
abbrev logits : S128x100000.Idx → EReal := m ((d : Thread nD τ).loc main_arg0)
/-- The uniform draws, at an index. -/
abbrev draws : S128x100000.Idx → EReal := m ((d : Thread nD τ).loc main_arg1)

theorem place (b : Fin 100) (r : Fin 1000) (l : Fin 128) : (rowRect b).emb (ix2 r l) = ix2 (column b r) l := by
  funext k
  refine Fin.ext ?_
  revert k
  refine Fin.forall_fin_two.mpr ⟨?_, ?_⟩
  · rw [emb_zero]; rfl
  · rw [emb_one]; rfl

theorem block_logits (b : Fin 100) (r : Fin 1000) (l : Fin 128) :
    inX (F := Ideal) m d b (ix2 r l) = logits m d (ix2 l (column b r)) := by
  unfold inX cut
  rw [place, Ends.start_logits]
  pointwise

theorem block_draws (b : Fin 100) (r : Fin 1000) (l : Fin 128) :
    inY (F := Ideal) m d b (ix2 r l) = draws m d (ix2 l (column b r)) := by
  unfold inY cut
  rw [place, Ends.start_draws]
  pointwise

theorem cell_eq (b : Fin 100) (r : Fin 1000) (l : Fin 128) :
    cell (inX (F := Ideal) m d) (inY (F := Ideal) m d) l b r = mark (logits m d) (draws m d) l (column b r) := by
  unfold cell mark
  rw [block_logits, block_draws]

/-- The kernel's result, at a row without +∞ among its scores and not −∞ throughout: every weight over their sum. -/
theorem kernel_eq (l : Fin 128) (c : Fin 100000) (ht : ∀ k, mark (logits m d) (draws m d) l k ≠ ⊤)
    (hb : ∃ k, mark (logits m d) (draws m d) l k ≠ ⊥) :
    transpose S128x100000 [1, 0] (output m d : FVec Ideal S100000x128 .f32) (Gen.transposes_S100000x128_S128x100000_1_0) (ix2 l c)
      = ((weight (mark (logits m d) (draws m d) l c) / ∑ k, weight (mark (logits m d) (draws m d) l k) : ℝ) : EReal) := by
  have hT := total_pos (mark (logits m d) (draws m d) l) ht hb
  have hy : ∀ b r, cell (inX (F := Ideal) m d) (inY (F := Ideal) m d) l b r ≠ ⊤ := fun b r => by rw [cell_eq]; exact ht _
  have hp : part (inX (F := Ideal) m d) (inY (F := Ideal) m d) l 100 = ∑ k, weight (mark (logits m d) (draws m d) l k) := by
    rw [part_all, ← sum_columns]
    exact Finset.sum_congr rfl fun b _ => Finset.sum_congr rfl fun r _ => by rw [cell_eq]
  have e : transpose S128x100000 [1, 0] (output m d : FVec Ideal S100000x128 .f32) (Gen.transposes_S100000x128_S128x100000_1_0) (ix2 l c)
      = output (F := Ideal) m d (ix2 c l) := by pointwise
  obtain ⟨⟨b, r⟩, rfl⟩ := columns.surjective c
  rw [e]
  show output (F := Ideal) m d (ix2 (column b r) l) = _
  rw [← place]
  unfold output glue
  rw [blockOf_emb, placeOf_emb, result_eq _ _ l hy (hp ▸ hT) b r, hp, cell_eq]
  rfl

end Ends

end Cert.KernelIdeal.Value

end
-- ==== Proof.Reference.lean ====
/-
  What the reference computes over the extended reals, read at an index.
-/
module

public import proofs.«01_k».proof.Proof.Gen.ReferenceIdeal.Run
public import proofs.«01_k».proof.Proof.Payload

@[expose] public section

set_option maxRecDepth 16384

noncomputable section

namespace Cert.ReferenceIdeal.Reading

open Idealize.ShloMosaic Idealize.ShloMosaic.TcCoe
open Cert.ReferenceIdeal Cert.ReferenceIdeal.Gen Cert.Softmax
open Cert.KernelIdeal.Payload (noise eps score ofBits_neg_inf)

section Pieces

variable (z u : FVec Ideal S128x100000 .f32)

/-- The greatest entry of every row. -/
def rowTops : FVec Ideal S128 .f32 :=
  Host.reduce FloatOps.maximumf z (constant S_ .f32 0xFF800000#32) reducesTo_S128x100000_S128_d1 h_S_

/-- Every row less its greatest entry. -/
def centred : FVec Ideal S128x100000 .f32 :=
  subf z (broadcastInDim S128x100000 ![0, 1] bcast_S128x1_S128x100000_0_1 (broadcastInDim S128x1 ![0] bcast_S128_S128x1_0
    (maximumf (broadcastInDim S128 ![] bcast_S_S128 (constant S_ .f32 0xFF800000#32)) (rowTops z))))

/-- Every row summed. -/
def rowSums : FVec Ideal S128x1 .f32 :=
  broadcastInDim S128x1 ![0] bcast_S128_S128x1_0
    (Host.reduceAdd z (constant S_ .f32 0x00000000#32) reducesTo_S128x100000_S128_d1 h_S_)

/-- The logarithm of the softmax of every row. -/
def logProbs : FVec Ideal S128x100000 .f32 :=
  subf (centred z) (broadcastInDim S128x100000 ![0, 1] bcast_S128x1_S128x100000_0_1 (Host.log (rowSums (Host.exp (centred z)))))

/-- The Gumbel noise. -/
def noises : FVec Ideal S128x100000 .f32 :=
  Host.negf (Host.log (Host.negf (Host.log (addf u (broadcastInDim S128x100000 ![] bcast_S_S128x100000 (constant S_ .f32 0x2D2FEBFF#32))))))

/-- The perturbed log-probabilities, over the temperature. -/
def perturbed : FVec Ideal S128x100000 .f32 :=
  Host.divf (addf (logProbs z) (noises u)) (broadcastInDim S128x100000 ![] bcast_S_S128x100000 (constant S_ .f32 0x3F800000#32))

/-- The softmax of every row. -/
def softs : FVec Ideal S128x100000 .f32 :=
  Host.divf (Host.exp (centred z)) (broadcastInDim S128x100000 ![0, 1] bcast_S128x1_S128x100000_0_1 (rowSums (Host.exp (centred z))))

end Pieces

section Readings

variable (z u : S128x100000.Idx → EReal) (l : Fin 128) (c : Fin 100000)

theorem rowTops_apply : @Eq EReal (rowTops z (ix1 l)) (Finset.univ.fold max (Ideal.ofBits .f32 0xFF800000#32) fun k => z (ix2 l k)) := by
  unfold rowTops
  pointwise

/-- A row's value taken off the row, whatever the value. -/
theorem shift_apply (R : S128.Idx → EReal) : @Eq EReal
    (subf (F := Ideal) (φ := .f32) z (broadcastInDim S128x100000 ![0, 1] bcast_S128x1_S128x100000_0_1 (broadcastInDim S128x1 ![0] bcast_S128_S128x1_0
      (maximumf (F := Ideal) (φ := .f32) (broadcastInDim S128 ![] bcast_S_S128 (constant (F := Ideal) S_ .f32 0xFF800000#32)) R))) (ix2 l c))
    (z (ix2 l c) - max (Ideal.ofBits .f32 0xFF800000#32) (R (ix1 l))) := by
  pointwise

theorem centred_apply : @Eq EReal (centred z (ix2 l c)) (off (fun k => z (ix2 l k)) c) := by
  unfold centred off
  rw [shift_apply, rowTops_apply, ofBits_neg_inf]

theorem rowSums_apply : @Eq EReal (rowSums z (ix2 l 0)) (0 + ∑ k, z (ix2 l k)) := by
  pointwise [rowSums]

theorem less_log_apply (C : S128x100000.Idx → EReal) (S : S128x1.Idx → EReal) : @Eq EReal
    (subf (F := Ideal) (φ := .f32) C (broadcastInDim S128x100000 ![0, 1] bcast_S128x1_S128x100000_0_1 (Host.log (F := Ideal) (φ := .f32) S)) (ix2 l c))
    (C (ix2 l c) - Ideal.log (S (ix2 l 0))) := by
  pointwise

theorem over_apply (C : S128x100000.Idx → EReal) (S : S128x1.Idx → EReal) : @Eq EReal
    (Host.divf (F := Ideal) (φ := .f32) (Host.exp (F := Ideal) (φ := .f32) C) (broadcastInDim S128x100000 ![0, 1] bcast_S128x1_S128x100000_0_1 S) (ix2 l c))
    (Ideal.div (Ideal.exp (C (ix2 l c))) (S (ix2 l 0))) := by
  pointwise

theorem exp_apply (C : S128x100000.Idx → EReal) : @Eq EReal (Host.exp (F := Ideal) (φ := .f32) C (ix2 l c)) (Ideal.exp (C (ix2 l c))) := by
  pointwise

theorem exp_sums : ∑ k, (Host.exp (F := Ideal) (φ := .f32) (centred z) : S128x100000.Idx → EReal) (ix2 l k) = ∑ k, Ideal.exp (off (fun k => z (ix2 l k)) k) :=
  Finset.sum_congr rfl fun k _ => by rw [exp_apply, centred_apply]

theorem logProbs_apply : @Eq EReal (logProbs z (ix2 l c)) (logProb (fun k => z (ix2 l k)) c) := by
  unfold logProbs logProb
  rw [less_log_apply, centred_apply, rowSums_apply, exp_sums]

theorem noises_apply : @Eq EReal (noises u (ix2 l c)) (noise (u (ix2 l c))) := by
  pointwise [noises, noise, eps]

theorem added_apply (C G : S128x100000.Idx → EReal) : @Eq EReal
    (Host.divf (F := Ideal) (φ := .f32) (addf (F := Ideal) (φ := .f32) C G) (broadcastInDim S128x100000 ![] bcast_S_S128x100000 (constant (F := Ideal) S_ .f32 0x3F800000#32)) (ix2 l c))
    (Ideal.div (C (ix2 l c) + G (ix2 l c)) 1) := by
  pointwise

theorem perturbed_apply : @Eq EReal (perturbed z u (ix2 l c)) (Ideal.div (logProb (fun k => z (ix2 l k)) c + noise (u (ix2 l c))) 1) := by
  unfold perturbed
  rw [added_apply, logProbs_apply, noises_apply]

theorem softs_apply : @Eq EReal (softs z (ix2 l c)) (soft (fun k => z (ix2 l k)) c) := by
  unfold softs soft
  rw [over_apply, centred_apply, rowSums_apply, exp_sums]

end Readings

variable (m : (ℓ : Loc nD τ sig) → Buf (Elt Ideal) ℓ) (d : Dev nD)

/-- The logits, at an index. -/
abbrev logits : S128x100000.Idx → EReal := m ((d : Thread nD τ).loc main_arg0)
/-- The uniform draws, at an index. -/
abbrev draws : S128x100000.Idx → EReal := m ((d : Thread nD τ).loc main_arg1)

/-- The reference's term is made of these pieces. -/
theorem res_eq : Cert.ReferenceIdeal.Value.res_main_v20 (F := Ideal) m d = softs (perturbed (logits m d) (draws m d)) := rfl

/-- The reference's result, at a row without +∞ among its logits and scores and not −∞ throughout: every weight over
    their sum. -/
theorem reference_eq (l : Fin 128) (c : Fin 100000) (hx : ∀ k, logits m d (ix2 l k) ≠ ⊤)
    (ht : ∀ k, score (logits m d (ix2 l k)) (draws m d (ix2 l k)) ≠ ⊤)
    (hb : ∃ k, score (logits m d (ix2 l k)) (draws m d (ix2 l k)) ≠ ⊥) :
    (Cert.ReferenceIdeal.Value.res_main_v20 (F := Ideal) m d : S128x100000.Idx → EReal) (ix2 l c)
      = ((weight (score (logits m d (ix2 l c)) (draws m d (ix2 l c)))
          / ∑ k, weight (score (logits m d (ix2 l k)) (draws m d (ix2 l k))) : ℝ) : EReal) := by
  rw [res_eq, softs_apply]
  refine Eq.trans (congrArg (fun z => soft z c) (funext fun k => perturbed_apply _ _ l k)) ?_
  exact reference_row (fun k => logits m d (ix2 l k)) (fun k => noise (draws m d (ix2 l k))) hx ht hb c

end Cert.ReferenceIdeal.Reading

end
-- ==== Proof.Condition.lean ====
/-
  What the precondition says: no logit is +∞, and the greatest perturbed logit of every row is a real number.
-/
module

public import proofs.«01_k».proof.Proof.Gen.Pre_rows_have_finite_tops
public import proofs.«01_k».proof.Proof.Payload

@[expose] public section

set_option maxRecDepth 16384

noncomputable section

namespace Cert.Condition

open Idealize.ShloMosaic
open Cert.Pre_rows_have_finite_tops Cert.Pre_rows_have_finite_tops.Facts Cert.Softmax
open Cert.KernelIdeal.Payload (noise eps score ofBits_neg_inf ofBits_inf)

variable [Facts]

section Pieces

variable (a u : FVec Ideal S128x100000 .f32)

/-- The perturbed logits. -/
def scores : FVec Ideal S128x100000 .f32 :=
  addf a (Host.negf (Host.log (Host.negf (Host.log (addf u (broadcastInDim S128x100000 ![] bcast_S_S128x100000 (constant S_ .f32 0x2D2FEBFF#32)))))))

/-- The greatest entry of every row. -/
def rowTops : FVec Ideal S128 .f32 :=
  Host.reduce FloatOps.maximumf a (constant S_ .f32 0xFF800000#32) reducesTo_S128x100000_S128_d1 h_S_

/-- The three comparisons, of an array and of a value to each row. -/
def compared (R : FVec Ideal S128 .f32) : IVec S128x100000 1 :=
  andi (andi (cmpf .olt a (broadcastInDim S128x100000 ![] bcast_S_S128x100000 (constant S_ .f32 0x7F800000#32)))
      (broadcastInDim S128x100000 ![0, 1] bcast_S128x1_S128x100000_0_1
        (cmpf .olt (broadcastInDim S128x1 ![0] bcast_S128_S128x1_0 R) (broadcastInDim S128x1 ![] bcast_S_S128x1 (constant S_ .f32 0x7F800000#32)))))
    (broadcastInDim S128x100000 ![0, 1] bcast_S128x1_S128x100000_0_1
      (cmpf .ogt (broadcastInDim S128x1 ![0] bcast_S128_S128x1_0 R) (broadcastInDim S128x1 ![] bcast_S_S128x1 (constant S_ .f32 0xFF800000#32))))

/-- The precondition's function is made of these pieces. -/
theorem fn_eq : fn (F := Ideal) a u = compared a (rowTops (scores a u)) := rfl

end Pieces

section Readings

variable (a u : S128x100000.Idx → EReal) (l : Fin 128) (c : Fin 100000)

theorem scores_apply : @Eq EReal (scores a u (ix2 l c)) (score (a (ix2 l c)) (u (ix2 l c))) := by
  pointwise [scores, score, noise, eps]

theorem rowTops_apply : @Eq EReal (rowTops a (ix1 l)) (Finset.univ.fold max (Ideal.ofBits .f32 0xFF800000#32) fun k => a (ix2 l k)) := by
  unfold rowTops
  pointwise

/-- Three decided facts and-ed are one only where all three hold. -/
theorem all_three (p q r : Bool) (h : IntOp.andi (IntOp.andi (BitVec.ofBool p) (BitVec.ofBool q)) (BitVec.ofBool r) = 1#1) :
    p = true ∧ q = true ∧ r = true := by
  revert h; revert p q r; decide

theorem compared_apply (R : S128.Idx → EReal) : compared a R (ix2 l c)
    = IntOp.andi (IntOp.andi (BitVec.ofBool (decide (a (ix2 l c) < Ideal.ofBits .f32 0x7F800000#32)))
        (BitVec.ofBool (decide (R (ix1 l) < Ideal.ofBits .f32 0x7F800000#32))))
      (BitVec.ofBool (decide (Ideal.ofBits .f32 0xFF800000#32 < R (ix1 l)))) := by
  pointwise [compared]

theorem compared_holds (R : S128.Idx → EReal) (h : compared a R (ix2 l c) = 1#1) : a (ix2 l c) < ⊤ ∧ R (ix1 l) < ⊤ ∧ ⊥ < R (ix1 l) := by
  rw [compared_apply] at h
  obtain ⟨h1, h2, h3⟩ := all_three _ _ _ h
  rw [decide_eq_true_eq] at h1 h2 h3
  rw [ofBits_inf] at h1 h2
  rw [ofBits_neg_inf] at h3
  exact ⟨h1, h2, h3⟩

theorem tops_eq : @Eq EReal (rowTops (scores a u) (ix1 l)) (Finset.univ.fold max ⊥ fun k => score (a (ix2 l k)) (u (ix2 l k))) := by
  rw [rowTops_apply, ofBits_neg_inf]
  exact congrArg (Finset.univ.fold max ⊥) (funext fun k => scores_apply a u l k)

/-- Where the precondition holds: no logit is +∞, no perturbed logit is, and every row has one above −∞. -/
theorem holds (h : fn (F := Ideal) a u = fun _ => 1#1) :
    (∀ k, a (ix2 l k) ≠ ⊤) ∧ (∀ k, score (a (ix2 l k)) (u (ix2 l k)) ≠ ⊤) ∧ ∃ k, score (a (ix2 l k)) (u (ix2 l k)) ≠ ⊥ := by
  have hc : ∀ k, a (ix2 l k) < ⊤ ∧ rowTops (scores a u) (ix1 l) < (⊤ : EReal) ∧ (⊥ : EReal) < rowTops (scores a u) (ix1 l) := fun k =>
    compared_holds a l k _ ((congrFun (fn_eq a u) _).symm.trans (congrFun h _))
  rw [tops_eq] at hc
  refine ⟨fun k => (hc k).1.ne, fun k => ?_, ?_⟩
  · exact ((le_top (fun k => score (a (ix2 l k)) (u (ix2 l k))) k).trans_lt (hc 0).2.1).ne
  · exact exists_of_top _ (hc 0).2.2.ne'

end Readings

end Cert.Condition

end
-- ==== Proof.Equal.lean ====
/-
  The equality of the two ideal programs' results, where every row's greatest perturbed logit is a real number.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.Pre_rows_have_finite_tops
public import proofs.«01_k».proof.Proof.Ends
public import proofs.«01_k».proof.Proof.Value
public import proofs.«01_k».proof.Proof.Reference
public import proofs.«01_k».proof.Proof.Condition

@[expose] public section

noncomputable section

namespace Cert.Equal

open Idealize.ShloMosaic Idealize.ShloMosaic.TcCoe Idealize.SL.Sem
open Cert.Softmax Cert.KernelIdeal.Payload

/-- An index of the result is its row and its column. -/
theorem index_eq (i : Cert.ReferenceIdeal.S128x100000.Idx) : i = ix2 (n0 := 128) (n1 := 100000) (i 0) (i 1) := by
  funext k
  revert k
  exact Fin.forall_fin_two.mpr ⟨rfl, rfl⟩

/-- From equal arguments that satisfy the precondition, the reference's result is the kernel's. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (d : Dev Cert.KernelIdeal.nD)
    (hp : Cert.Pre_rows_have_finite_tops.fn (F := Ideal) (Cert.KernelIdeal.Value.logits m d) (Cert.KernelIdeal.Value.draws m d) = fun _ => 1#1)
    (h0 : Cert.ReferenceIdeal.Reading.logits m' d = Cert.KernelIdeal.Value.logits m d)
    (h1 : Cert.ReferenceIdeal.Reading.draws m' d = Cert.KernelIdeal.Value.draws m d) :
    @Eq (Cert.ReferenceIdeal.S128x100000.Idx → EReal) (Cert.ReferenceIdeal.Value.res_main_v20 (F := Ideal) m' d)
      (transpose Cert.KernelIdeal.S128x100000 [1, 0] (Cert.KernelIdeal.Run.output m d : FVec Ideal Cert.KernelIdeal.S100000x128 .f32)
        Cert.KernelIdeal.Gen.transposes_S100000x128_S128x100000_1_0) := by
  funext i
  rw [index_eq i]
  obtain ⟨hx, ht, hb⟩ := Cert.Condition.holds (Cert.KernelIdeal.Value.logits m d) (Cert.KernelIdeal.Value.draws m d) (i 0) hp
  refine (Cert.ReferenceIdeal.Reading.reference_eq m' d (i 0) (i 1) ?_ ?_ ?_).trans ?_
  · rw [h0]; exact hx
  · rw [h0, h1]; exact ht
  · rw [h0, h1]; exact hb
  · rw [h0, h1]
    exact (Cert.KernelIdeal.Value.kernel_eq m d (i 0) (i 1) ht hb).symm

/-- Both programs end, with the same result. -/
theorem algebraic : Cert.algebraic_KernelIdeal_ReferenceIdeal_pre_rows_have_finite_tops := fun m g m' g' hp he =>
  ⟨fun c => transpose Cert.KernelIdeal.S128x100000 [1, 0] (Cert.KernelIdeal.Run.output m c : FVec Ideal Cert.KernelIdeal.S100000x128 .f32)
      Cert.KernelIdeal.Gen.transposes_S100000x128_S128x100000_1_0,
    (θ_run Cert.KernelIdeal.defs _ _).mono (fun _ h c => h.1 c) (Cert.KernelIdeal.Ends.run_value m g),
    (θ_run Cert.ReferenceIdeal.defs _ _).mono
      (fun _ h c => ⟨(h c).1.trans (results m m' c (hp c) (he c).1 (he c).2), (h c).2⟩) (Cert.ReferenceIdeal.Value.run m' g')⟩

end Cert.Equal

end
-- ==== Proof.lean ====
/-
  The proof of `Cert.Claim`: the frames of the kernel, of its ideal reading and of the reference, and the equality of the
  two ideal programs' results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_rows_have_finite_tops
public import proofs.«01_k».proof.Proof.Frames
public import proofs.«01_k».proof.Proof.Equal

@[expose] public section

noncomputable section

namespace Cert.Proof

open Idealize.ShloMosaic Idealize.SL.Sem

/-- Everything that is claimed. -/
theorem claim : Cert.Claim :=
  ⟨Cert.Kernel.Gen.facts, Cert.KernelIdeal.Gen.facts, Cert.ReferenceIdeal.Gen.facts, Cert.Pre_rows_have_finite_tops.Gen.facts,
    Frames.kernel, Frames.kernelIdeal, Frames.kernelIdeal_pre, Frames.referenceIdeal, Frames.referenceIdeal_pre, trivial,
    Equal.algebraic⟩

end Cert.Proof

end
